-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_are_16 [hPre_counts_are_16 : Cert.Pre_counts_are_16.Facts] (m : (ℓ : Loc Cert.KernelIdeal.nD Cert.KernelIdeal.τ Cert.KernelIdeal.sig) → Buf (Elt Ideal) ℓ) : Prop :=
  ∀ c : Dev Cert.KernelIdeal.nD,
    (Cert.Pre_counts_are_16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_are_16 [hPre_counts_are_16 : Cert.Pre_counts_are_16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_are_16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_counts_are_16 [hKernelIdeal : Cert.KernelIdeal.Facts] [hPre_counts_are_16 : Cert.Pre_counts_are_16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_are_16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_counts_are_16 [hReferenceIdeal : Cert.ReferenceIdeal.Facts] [hPre_counts_are_16 : Cert.Pre_counts_are_16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_are_16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_counts_are_16 [hKernelIdeal : Cert.KernelIdeal.Facts] [hReferenceIdeal : Cert.ReferenceIdeal.Facts] [hPre_counts_are_16 : Cert.Pre_counts_are_16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_are_16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_counts_are_16 : Cert.Pre_counts_are_16.Facts),
    quiescent_Kernel (hKernel := hKernel)
    ∧ quiescent_KernelIdeal (hKernelIdeal := hKernelIdeal)
    ∧ quiescent_KernelIdeal_pre_counts_are_16 (hKernelIdeal := hKernelIdeal) (hPre_counts_are_16 := hPre_counts_are_16)
    ∧ quiescent_ReferenceIdeal (hReferenceIdeal := hReferenceIdeal)
    ∧ quiescent_ReferenceIdeal_pre_counts_are_16 (hReferenceIdeal := hReferenceIdeal) (hPre_counts_are_16 := hPre_counts_are_16)
    ∧ preserves_Kernel_KernelIdeal
    ∧ algebraic_KernelIdeal_ReferenceIdeal_pre_counts_are_16 (hKernelIdeal := hKernelIdeal) (hReferenceIdeal := hReferenceIdeal) (hPre_counts_are_16 := hPre_counts_are_16)
-- ==== Pre_counts_are_16.lean ====
abbrev S262144x24 : Shape := ⟨2, ![262144, 24]⟩
abbrev S16384x10 : Shape := ⟨2, ![16384, 10]⟩
abbrev S16384 : Shape := ⟨1, ![16384]⟩
abbrev S24x64 : Shape := ⟨2, ![24, 64]⟩
abbrev S64 : Shape := ⟨1, ![64]⟩
abbrev S64x64 : Shape := ⟨2, ![64, 64]⟩
abbrev S10x32 : Shape := ⟨2, ![10, 32]⟩
abbrev S32 : Shape := ⟨1, ![32]⟩
abbrev S32x32 : Shape := ⟨2, ![32, 32]⟩
abbrev S160x64 : Shape := ⟨2, ![160, 64]⟩
abbrev S64x32 : Shape := ⟨2, ![64, 32]⟩
abbrev S32x1 : Shape := ⟨2, ![32, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S262144x24 .f32) (main_arg1 : FVec F S262144x24 .f32) (main_arg2 : FVec F S16384x10 .f32) (main_arg3 : IVec S16384 32) (main_arg4 : IVec S16384 32) (main_arg5 : FVec F S24x64 .f32) (main_arg6 : FVec F S64 .f32) (main_arg7 : FVec F S64x64 .f32) (main_arg8 : FVec F S64 .f32) (main_arg9 : FVec F S10x32 .f32) (main_arg10 : FVec F S32 .f32) (main_arg11 : FVec F S32x32 .f32) (main_arg12 : FVec F S32 .f32) (main_arg13 : FVec F S160x64 .f32) (main_arg14 : FVec F S64 .f32) (main_arg15 : FVec F S64x32 .f32) (main_arg16 : FVec F S32 .f32) (main_arg17 : FVec F S32x1 .f32) (main_arg18 : FVec F S1 .f32) : IVec S_ 1 :=
  let main_c : IVec S_ 32 := constantI S_ 32 16#32
  let main_v0 : IVec S16384 32 := broadcastInDim S16384 ![] bcast_S_S16384 main_c
  let main_v1 : IVec S16384 1 := cmpi .eq main_arg3 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 16#32
  let main_v3 : IVec S16384 32 := broadcastInDim S16384 ![] bcast_S_S16384 main_c_1
  let main_v4 : IVec S16384 1 := cmpi .eq main_arg4 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  main_v6
-- ==== Kernel.lean ====
abbrev S262144x24 : Shape := ⟨2, ![262144, 24]⟩
abbrev S16384x10 : Shape := ⟨2, ![16384, 10]⟩
abbrev S16384 : Shape := ⟨1, ![16384]⟩
abbrev S24x64 : Shape := ⟨2, ![24, 64]⟩
abbrev S64 : Shape := ⟨1, ![64]⟩
abbrev S64x64 : Shape := ⟨2, ![64, 64]⟩
abbrev S10x32 : Shape := ⟨2, ![10, 32]⟩
abbrev S32 : Shape := ⟨1, ![32]⟩
abbrev S32x32 : Shape := ⟨2, ![32, 32]⟩
abbrev S160x64 : Shape := ⟨2, ![160, 64]⟩
abbrev S64x32 : Shape := ⟨2, ![64, 32]⟩
abbrev S32x1 : Shape := ⟨2, ![32, 1]⟩
abbrev S1 : Shape := ⟨1, ![1]⟩
abbrev S_ : Shape := ⟨0, ![]⟩
abbrev S24x128 : Shape := ⟨2, ![24, 128]⟩
abbrev S48x128 : Shape := ⟨2, ![48, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S1x32 : Shape := ⟨2, ![1, 32]⟩
abbrev S128x64 : Shape := ⟨2, ![128, 64]⟩
abbrev S32x64 : Shape := ⟨2, ![32, 64]⟩
abbrev S1x64 : Shape := ⟨2, ![1, 64]⟩
abbrev S1x1 : Shape := ⟨2, ![1, 1]⟩
abbrev S16384x24 : Shape := ⟨2, ![16384, 24]⟩
abbrev S1024x10 : Shape := ⟨2, ![1024, 10]⟩
abbrev S1024 : Shape := ⟨1, ![1024]⟩
abbrev S16384x48 : Shape := ⟨2, ![16384, 48]⟩
abbrev S16384x128 : Shape := ⟨2, ![16384, 128]⟩
abbrev S1024x16x128 : Shape := ⟨3, ![1024, 16, 128]⟩
abbrev S1024x128 : Shape := ⟨2, ![1024, 128]⟩
abbrev S1024x32 : Shape := ⟨2, ![1024, 32]⟩
abbrev S1024x64 : Shape := ⟨2, ![1024, 64]⟩

abbrev nBuf : Space → Nat
  | .hbm => 58
  | .vmem => 23
  | .smem => 0
  | _ => 0

abbrev bufTy : (tb : Table) → Fin (tcTables nBuf tb) → BufTy
  | .hbm, ⟨0, _⟩ => ⟨S262144x24, .f32⟩
  | .hbm, ⟨1, _⟩ => ⟨S262144x24, .f32⟩
  | .hbm, ⟨2, _⟩ => ⟨S16384x10, .f32⟩
  | .hbm, ⟨3, _⟩ => ⟨S16384, .i32⟩
  | .hbm, ⟨4, _⟩ => ⟨S16384, .i32⟩
  | .hbm, ⟨5, _⟩ => ⟨S24x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S10x32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S160x64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S_, .f32⟩
  | .hbm, ⟨20, _⟩ => ⟨S24x64, .f32⟩
  | .hbm, ⟨21, _⟩ => ⟨S_, .f32⟩
  | .hbm, ⟨22, _⟩ => ⟨S64x64, .f32⟩
  | .hbm, ⟨23, _⟩ => ⟨S24x128, .f32⟩
  | .hbm, ⟨24, _⟩ => ⟨S24x128, .f32⟩
  | .hbm, ⟨25, _⟩ => ⟨S48x128, .f32⟩
  | .hbm, ⟨26, _⟩ => ⟨S64x128, .f32⟩
  | .hbm, ⟨27, _⟩ => ⟨S64x128, .f32⟩
  | .hbm, ⟨28, _⟩ => ⟨S128x128, .f32⟩
  | .hbm, ⟨29, _⟩ => ⟨S128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S48x128, .bf16⟩
  | .hbm, ⟨34, _⟩ => ⟨S48x128, .f32⟩
  | .hbm, ⟨35, _⟩ => ⟨S128x128, .bf16⟩
  | .hbm, ⟨36, _⟩ => ⟨S128x128, .f32⟩
  | .hbm, ⟨37, _⟩ => ⟨S10x32, .bf16⟩
  | .hbm, ⟨38, _⟩ => ⟨S10x32, .f32⟩
  | .hbm, ⟨39, _⟩ => ⟨S1x32, .f32⟩
  | .hbm, ⟨40, _⟩ => ⟨S32x32, .bf16⟩
  | .hbm, ⟨41, _⟩ => ⟨S32x32, .f32⟩
  | .hbm, ⟨42, _⟩ => ⟨S1x32, .f32⟩
  | .hbm, ⟨43, _⟩ => ⟨S128x64, .f32⟩
  | .hbm, ⟨44, _⟩ => ⟨S128x64, .bf16⟩
  | .hbm, ⟨45, _⟩ => ⟨S128x64, .f32⟩
  | .hbm, ⟨46, _⟩ => ⟨S32x64, .f32⟩
  | .hbm, ⟨47, _⟩ => ⟨S32x64, .bf16⟩
  | .hbm, ⟨48, _⟩ => ⟨S32x64, .f32⟩
  | .hbm, ⟨49, _⟩ => ⟨S1x64, .f32⟩
  | .hbm, ⟨50, _⟩ => ⟨S64x32, .bf16⟩
  | .hbm, ⟨51, _⟩ => ⟨S64x32, .f32⟩
  | .hbm, ⟨52, _⟩ => ⟨S1x32, .f32⟩
  | .hbm, ⟨53, _⟩ => ⟨S1x32, .f32⟩
  | .hbm, ⟨54, _⟩ => ⟨S1x32, .bf16⟩
  | .hbm, ⟨55, _⟩ => ⟨S1x32, .f32⟩
  | .hbm, ⟨56, _⟩ => ⟨S1x1, .f32⟩
  | .hbm, ⟨57, _⟩ => ⟨S16384, .f32⟩
  | .local _ .vmem, ⟨0, _⟩ => ⟨S16384x24, .f32⟩
  | .local _ .vmem, ⟨1, _⟩ => ⟨S16384x24, .f32⟩
  | .local _ .vmem, ⟨2, _⟩ => ⟨S16384x24, .f32⟩
  | .local _ .vmem, ⟨3, _⟩ => ⟨S16384x24, .f32⟩
  | .local _ .vmem, ⟨4, _⟩ => ⟨S1024x10, .f32⟩
  | .local _ .vmem, ⟨5, _⟩ => ⟨S1024x10, .f32⟩
  | .local _ .vmem, ⟨6, _⟩ => ⟨S48x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S10x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S128x64, .f32⟩
  | .local _ .vmem, ⟨15, _⟩ => ⟨S32x64, .f32⟩
  | .local _ .vmem, ⟨16, _⟩ => ⟨S1x64, .f32⟩
  | .local _ .vmem, ⟨17, _⟩ => ⟨S64x32, .f32⟩
  | .local _ .vmem, ⟨18, _⟩ => ⟨S1x32, .f32⟩
  | .local _ .vmem, ⟨19, _⟩ => ⟨S1x32, .f32⟩
  | .local _ .vmem, ⟨20, _⟩ => ⟨S1x1, .f32⟩
  | .local _ .vmem, ⟨21, _⟩ => ⟨S1024, .f32⟩
  | .local _ .vmem, ⟨22, _⟩ => ⟨S1024, .f32⟩
  | _, _ => ⟨S262144x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16384x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S262144x24 : Shape := ⟨2, ![262144, 24]⟩
abbrev S16384x10 : Shape := ⟨2, ![16384, 10]⟩
abbrev S16384 : Shape := ⟨1, ![16384]⟩
abbrev S24x64 : Shape := ⟨2, ![24, 64]⟩
abbrev S64 : Shape := ⟨1, ![64]⟩
abbrev S64x64 : Shape := ⟨2, ![64, 64]⟩
abbrev S10x32 : Shape := ⟨2, ![10, 32]⟩
abbrev S32 : Shape := ⟨1, ![32]⟩
abbrev S32x32 : Shape := ⟨2, ![32, 32]⟩
abbrev S160x64 : Shape := ⟨2, ![160, 64]⟩
abbrev S64x32 : Shape := ⟨2, ![64, 32]⟩
abbrev S32x1 : Shape := ⟨2, ![32, 1]⟩
abbrev S1 : Shape := ⟨1, ![1]⟩
abbrev S262144x64 : Shape := ⟨2, ![262144, 64]⟩
abbrev S1x64 : Shape := ⟨2, ![1, 64]⟩
abbrev S_ : Shape := ⟨0, ![]⟩
abbrev S16384x32 : Shape := ⟨2, ![16384, 32]⟩
abbrev S1x32 : Shape := ⟨2, ![1, 32]⟩
abbrev S16383 : Shape := ⟨1, ![16383]⟩
abbrev S262144 : Shape := ⟨1, ![262144]⟩
abbrev S16384x1 : Shape := ⟨2, ![16384, 1]⟩
abbrev S262144x1 : Shape := ⟨2, ![262144, 1]⟩
abbrev S1x1 : Shape := ⟨2, ![1, 1]⟩
abbrev S16384x64 : Shape := ⟨2, ![16384, 64]⟩
abbrev S16384x160 : Shape := ⟨2, ![16384, 160]⟩

abbrev nBuf : Space → Nat
  | .hbm => 220
  | .vmem => 0
  | .smem => 0
  | _ => 0

abbrev hbmTy0_0 (i : Nat) : BufTy := match i % 128 with
  | 0 => ⟨S262144x24, .f32⟩
  | 1 => ⟨S262144x24, .f32⟩
  | 2 => ⟨S16384x10, .f32⟩
  | 3 => ⟨S16384, .i32⟩
  | 4 => ⟨S16384, .i32⟩
  | 5 => ⟨S24x64, .f32⟩
  | 6 => ⟨S64, .f32⟩
  | 7 => ⟨S64x64, .f32⟩
  | 8 => ⟨S64, .f32⟩
  | 9 => ⟨S10x32, .f32⟩
  | 10 => ⟨S32, .f32⟩
  | 11 => ⟨S32x32, .f32⟩
  | 12 => ⟨S32, .f32⟩
  | 13 => ⟨S160x64, .f32⟩
  | 14 => ⟨S64, .f32⟩
  | 15 => ⟨S64x32, .f32⟩
  | 16 => ⟨S32, .f32⟩
  | 17 => ⟨S32x1, .f32⟩
  | 18 => ⟨S1, .f32⟩
  | 19 => ⟨S262144x64, .f32⟩
  | 20 => ⟨S1x64, .f32⟩
  | 21 => ⟨S262144x64, .f32⟩
  | 22 => ⟨S262144x64, .f32⟩
  | 23 => ⟨S_, .f32⟩
  | 24 => ⟨S262144x64, .f32⟩
  | 25 => ⟨S262144x64, .f32⟩
  | 26 => ⟨S262144x64, .f32⟩
  | 27 => ⟨S1x64, .f32⟩
  | 28 => ⟨S262144x64, .f32⟩
  | 29 => ⟨S262144x64, .f32⟩
  | 30 => ⟨S262144x64, .f32⟩
  | 31 => ⟨S262144x64, .f32⟩
  | 32 => ⟨S_, .f32⟩
  | 33 => ⟨S262144x64, .f32⟩
  | 34 => ⟨S262144x64, .f32⟩
  | 35 => ⟨S_, .f32⟩
  | 36 => ⟨S262144x64, .f32⟩
  | 37 => ⟨S262144x64, .f32⟩
  | 38 => ⟨S262144x64, .f32⟩
  | 39 => ⟨S1x64, .f32⟩
  | 40 => ⟨S262144x64, .f32⟩
  | 41 => ⟨S262144x64, .f32⟩
  | 42 => ⟨S_, .f32⟩
  | 43 => ⟨S262144x64, .f32⟩
  | 44 => ⟨S262144x64, .f32⟩
  | 45 => ⟨S262144x64, .f32⟩
  | 46 => ⟨S1x64, .f32⟩
  | 47 => ⟨S262144x64, .f32⟩
  | 48 => ⟨S262144x64, .f32⟩
  | 49 => ⟨S262144x64, .f32⟩
  | 50 => ⟨S262144x64, .f32⟩
  | 51 => ⟨S_, .f32⟩
  | 52 => ⟨S262144x64, .f32⟩
  | 53 => ⟨S262144x64, .f32⟩
  | 54 => ⟨S_, .f32⟩
  | 55 => ⟨S262144x64, .f32⟩
  | 56 => ⟨S262144x64, .f32⟩
  | 57 => ⟨S16384x32, .f32⟩
  | 58 => ⟨S1x32, .f32⟩
  | 59 => ⟨S16384x32, .f32⟩
  | 60 => ⟨S16384x32, .f32⟩
  | 61 => ⟨S_, .f32⟩
  | 62 => ⟨S16384x32, .f32⟩
  | 63 => ⟨S16384x32, .f32⟩
  | 64 => ⟨S16384x32, .f32⟩
  | 65 => ⟨S1x32, .f32⟩
  | 66 => ⟨S16384x32, .f32⟩
  | 67 => ⟨S16384x32, .f32⟩
  | 68 => ⟨S16384x32, .f32⟩
  | 69 => ⟨S16384x32, .f32⟩
  | 70 => ⟨S_, .f32⟩
  | 71 => ⟨S16384x32, .f32⟩
  | 72 => ⟨S16384x32, .f32⟩
  | 73 => ⟨S_, .f32⟩
  | 74 => ⟨S16384x32, .f32⟩
  | 75 => ⟨S16384x32, .f32⟩
  | 76 => ⟨S16384, .i32⟩
  | 77 => ⟨S1, .i32⟩
  | 78 => ⟨S16383, .i32⟩
  | 79 => ⟨S16384, .i32⟩
  | 80 => ⟨S_, .i32⟩
  | 81 => ⟨S1, .i32⟩
  | 82 => ⟨S_, .i32⟩
  | 83 => ⟨S16384, .i32⟩
  | 84 => ⟨S_, .i32⟩
  | 85 => ⟨S_, .i32⟩
  | 86 => ⟨S16384, .i32⟩
  | 87 => ⟨S_, .i32⟩
  | 88 => ⟨S262144, .i32⟩
  | 89 => ⟨S_, .i32⟩
  | 90 => ⟨S16384, .i32⟩
  | 91 => ⟨S16384, .i1⟩
  | 92 => ⟨S_, .i32⟩
  | 93 => ⟨S16384, .i32⟩
  | 94 => ⟨S16384, .i32⟩
  | 95 => ⟨S16384, .i32⟩
  | 96 => ⟨S16384x1, .i32⟩
  | 97 => ⟨S_, .i32⟩
  | 98 => ⟨S16384, .i32⟩
  | 99 => ⟨S262144, .i32⟩
  | 100 => ⟨S_, .i32⟩
  | 101 => ⟨S_, .i32⟩
  | 102 => ⟨S262144, .i32⟩
  | 103 => ⟨S_, .i32⟩
  | 104 => ⟨S262144, .i32⟩
  | 105 => ⟨S262144, .i32⟩
  | 106 => ⟨S_, .i32⟩
  | 107 => ⟨S262144, .i32⟩
  | 108 => ⟨S262144, .i1⟩
  | 109 => ⟨S_, .i32⟩
  | 110 => ⟨S262144, .i32⟩
  | 111 => ⟨S262144, .i32⟩
  | 112 => ⟨S262144, .i32⟩
  | 113 => ⟨S262144x1, .i32⟩
  | 114 => ⟨S1, .i32⟩
  | 115 => ⟨S_, .i32⟩
  | 116 => ⟨S262144x1, .i32⟩
  | 117 => ⟨S262144x1, .i1⟩
  | 118 => ⟨S1x1, .i32⟩
  | 119 => ⟨S262144x1, .i32⟩
  | 120 => ⟨S262144x1, .i1⟩
  | 121 => ⟨S262144x1, .i1⟩
  | 122 => ⟨S_, .i1⟩
  | 123 => ⟨S262144, .i1⟩
  | 124 => ⟨S262144, .i32⟩
  | 125 => ⟨S_, .i32⟩
  | 126 => ⟨S262144, .i32⟩
  | 127 => ⟨S262144, .i32⟩
  | _ => ⟨S262144x24, .f32⟩

abbrev hbmTy0_1 (i : Nat) : BufTy := match i % 128 with
  | 0 => ⟨S16384, .i32⟩
  | 1 => ⟨S1, .i32⟩
  | 2 => ⟨S16383, .i32⟩
  | 3 => ⟨S16384, .i32⟩
  | 4 => ⟨S_, .i32⟩
  | 5 => ⟨S1, .i32⟩
  | 6 => ⟨S_, .i32⟩
  | 7 => ⟨S16384, .i32⟩
  | 8 => ⟨S_, .i32⟩
  | 9 => ⟨S_, .i32⟩
  | 10 => ⟨S16384, .i32⟩
  | 11 => ⟨S_, .i32⟩
  | 12 => ⟨S262144, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S_, .i32⟩
  | 22 => ⟨S16384, .i32⟩
  | 23 => ⟨S262144, .i32⟩
  | 24 => ⟨S_, .i32⟩
  | 25 => ⟨S_, .i32⟩
  | 26 => ⟨S262144, .i32⟩
  | 27 => ⟨S_, .i32⟩
  | 28 => ⟨S262144, .i32⟩
  | 29 => ⟨S262144, .i32⟩
  | 30 => ⟨S_, .i32⟩
  | 31 => ⟨S262144, .i32⟩
  | 32 => ⟨S262144, .i1⟩
  | 33 => ⟨S_, .i32⟩
  | 34 => ⟨S262144, .i32⟩
  | 35 => ⟨S262144, .i32⟩
  | 36 => ⟨S262144, .i32⟩
  | 37 => ⟨S262144x1, .i32⟩
  | 38 => ⟨S1, .i32⟩
  | 39 => ⟨S_, .i32⟩
  | 40 => ⟨S262144x1, .i32⟩
  | 41 => ⟨S262144x1, .i1⟩
  | 42 => ⟨S1x1, .i32⟩
  | 43 => ⟨S262144x1, .i32⟩
  | 44 => ⟨S262144x1, .i1⟩
  | 45 => ⟨S262144x1, .i1⟩
  | 46 => ⟨S_, .i1⟩
  | 47 => ⟨S262144, .i1⟩
  | 48 => ⟨S262144, .i32⟩
  | 49 => ⟨S_, .i32⟩
  | 50 => ⟨S262144, .i32⟩
  | 51 => ⟨S262144, .i32⟩
  | 52 => ⟨S_, .f32⟩
  | 53 => ⟨S16384x64, .f32⟩
  | 54 => ⟨S262144x1, .i32⟩
  | 55 => ⟨S16384x64, .f32⟩
  | 56 => ⟨S16384x1, .i32⟩
  | 57 => ⟨S16384x1, .f32⟩
  | 58 => ⟨S16384x64, .f32⟩
  | 59 => ⟨S16384x64, .f32⟩
  | 60 => ⟨S_, .f32⟩
  | 61 => ⟨S16384x64, .f32⟩
  | 62 => ⟨S262144x1, .i32⟩
  | 63 => ⟨S16384x64, .f32⟩
  | 64 => ⟨S16384x1, .i32⟩
  | 65 => ⟨S16384x1, .f32⟩
  | 66 => ⟨S16384x64, .f32⟩
  | 67 => ⟨S16384x64, .f32⟩
  | 68 => ⟨S16384x160, .f32⟩
  | 69 => ⟨S16384x64, .f32⟩
  | 70 => ⟨S1x64, .f32⟩
  | 71 => ⟨S16384x64, .f32⟩
  | 72 => ⟨S16384x64, .f32⟩
  | 73 => ⟨S_, .f32⟩
  | 74 => ⟨S16384x64, .f32⟩
  | 75 => ⟨S16384x64, .f32⟩
  | 76 => ⟨S16384x32, .f32⟩
  | 77 => ⟨S1x32, .f32⟩
  | 78 => ⟨S16384x32, .f32⟩
  | 79 => ⟨S16384x32, .f32⟩
  | 80 => ⟨S_, .f32⟩
  | 81 => ⟨S16384x32, .f32⟩
  | 82 => ⟨S16384x32, .f32⟩
  | 83 => ⟨S16384x1, .f32⟩
  | 84 => ⟨S1x1, .f32⟩
  | 85 => ⟨S16384x1, .f32⟩
  | 86 => ⟨S16384x1, .f32⟩
  | 87 => ⟨S16384x1, .i32⟩
  | 88 => ⟨S16384x1, .f32⟩
  | 89 => ⟨S16384x1, .f32⟩
  | 90 => ⟨S16384x1, .f32⟩
  | 91 => ⟨S16384, .f32⟩
  | _ => ⟨S262144x24, .f32⟩

abbrev hbmTy (i : Nat) : BufTy := match i / 128 with
  | 0 => hbmTy0_0 i
  | 1 => hbmTy0_1 i
  | _ => ⟨S262144x24, .f32⟩

abbrev bufTy : (tb : Table) → Fin (tcTables nBuf tb) → BufTy
  | .hbm, ⟨i, _⟩ => hbmTy i
  | _, _ => ⟨S262144x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call1_cst : Ref sig .tc := ⟨.hbm, 42, rfl⟩
abbrev main_call1_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_1 : Ref sig .tc := ⟨.hbm, 51, rfl⟩
abbrev main_v26 : Ref sig .tc := ⟨.hbm, 52, rfl⟩
abbrev main_v27 : Ref sig .tc := ⟨.hbm, 53, rfl⟩
abbrev main_cst_2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call2_cst : Ref sig .tc := ⟨.hbm, 61, rfl⟩
abbrev main_call2_v0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call3_v0 : Ref sig .tc := ⟨.hbm, 77, rfl⟩
abbrev main_call3_v1 : Ref sig .tc := ⟨.hbm, 78, rfl⟩
abbrev main_v46 : Ref sig .tc := ⟨.hbm, 79, rfl⟩
abbrev main_c : Ref sig .tc := ⟨.hbm, 80, rfl⟩
abbrev main_v47 : Ref sig .tc := ⟨.hbm, 81, rfl⟩
abbrev main_c_5 : Ref sig .tc := ⟨.hbm, 82, rfl⟩
abbrev main_v48 : Ref sig .tc := ⟨.hbm, 83, rfl⟩
abbrev main_call4_call0_c : Ref sig .tc := ⟨.hbm, 84, rfl⟩
abbrev main_call4_call0_v0 : Ref sig .tc := ⟨.hbm, 85, rfl⟩
abbrev main_v49 : Ref sig .tc := ⟨.hbm, 86, rfl⟩
abbrev main_c_6 : Ref sig .tc := ⟨.hbm, 87, rfl⟩
abbrev main_v50 : Ref sig .tc := ⟨.hbm, 88, rfl⟩
abbrev main_c_7 : Ref sig .tc := ⟨.hbm, 89, rfl⟩
abbrev main_v51 : Ref sig .tc := ⟨.hbm, 90, rfl⟩
abbrev main_v52 : Ref sig .tc := ⟨.hbm, 91, rfl⟩
abbrev main_c_8 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_c_9 : Ref sig .tc := ⟨.hbm, 97, rfl⟩
abbrev main_v57 : Ref sig .tc := ⟨.hbm, 98, rfl⟩
abbrev main_v58 : Ref sig .tc := ⟨.hbm, 99, rfl⟩
abbrev main_call5_call0_c : Ref sig .tc := ⟨.hbm, 100, rfl⟩
abbrev main_call5_call0_v0 : Ref sig .tc := ⟨.hbm, 101, rfl⟩
abbrev main_v59 : Ref sig .tc := ⟨.hbm, 102, rfl⟩
abbrev main_c_10 : Ref sig .tc := ⟨.hbm, 103, rfl⟩
abbrev main_v60 : Ref sig .tc := ⟨.hbm, 104, rfl⟩
abbrev main_v61 : Ref sig .tc := ⟨.hbm, 105, rfl⟩
abbrev main_call6_c : Ref sig .tc := ⟨.hbm, 106, rfl⟩
abbrev main_call6_v0 : Ref sig .tc := ⟨.hbm, 107, rfl⟩
abbrev main_call6_v1 : Ref sig .tc := ⟨.hbm, 108, rfl⟩
abbrev main_call6_c_0 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_call6_v5 : Ref sig .tc := ⟨.hbm, 113, rfl⟩
abbrev main_call6_c_1 : Ref sig .tc := ⟨.hbm, 114, rfl⟩
abbrev main_call6_c_2 : Ref sig .tc := ⟨.hbm, 115, rfl⟩
abbrev main_call6_v6 : Ref sig .tc := ⟨.hbm, 116, rfl⟩
abbrev main_call6_v7 : Ref sig .tc := ⟨.hbm, 117, rfl⟩
abbrev main_call6_v8 : Ref sig .tc := ⟨.hbm, 118, rfl⟩
abbrev main_call6_v9 : Ref sig .tc := ⟨.hbm, 119, rfl⟩
abbrev main_call6_v10 : Ref sig .tc := ⟨.hbm, 120, rfl⟩
abbrev main_call6_v11 : Ref sig .tc := ⟨.hbm, 121, rfl⟩
abbrev main_call6_c_3 : Ref sig .tc := ⟨.hbm, 122, rfl⟩
abbrev main_call6_v12 : Ref sig .tc := ⟨.hbm, 123, rfl⟩
abbrev main_call6_v13 : Ref sig .tc := ⟨.hbm, 124, rfl⟩
abbrev main_call6_c_4 : Ref sig .tc := ⟨.hbm, 125, rfl⟩
abbrev main_call6_v14 : Ref sig .tc := ⟨.hbm, 126, rfl⟩
abbrev main_v62 : Ref sig .tc := ⟨.hbm, 127, rfl⟩
abbrev main_v63 : Ref sig .tc := ⟨.hbm, 128, rfl⟩
abbrev main_call7_v0 : Ref sig .tc := ⟨.hbm, 129, rfl⟩
abbrev main_call7_v1 : Ref sig .tc := ⟨.hbm, 130, rfl⟩
abbrev main_v64 : Ref sig .tc := ⟨.hbm, 131, rfl⟩
abbrev main_c_11 : Ref sig .tc := ⟨.hbm, 132, rfl⟩
abbrev main_v65 : Ref sig .tc := ⟨.hbm, 133, rfl⟩
abbrev main_c_12 : Ref sig .tc := ⟨.hbm, 134, rfl⟩
abbrev main_v66 : Ref sig .tc := ⟨.hbm, 135, rfl⟩
abbrev main_call8_call0_c : Ref sig .tc := ⟨.hbm, 136, rfl⟩
abbrev main_call8_call0_v0 : Ref sig .tc := ⟨.hbm, 137, rfl⟩
abbrev main_v67 : Ref sig .tc := ⟨.hbm, 138, rfl⟩
abbrev main_c_13 : Ref sig .tc := ⟨.hbm, 139, rfl⟩
abbrev main_v68 : Ref sig .tc := ⟨.hbm, 140, rfl⟩
abbrev main_c_14 : Ref sig .tc := ⟨.hbm, 141, rfl⟩
abbrev main_v69 : Ref sig .tc := ⟨.hbm, 142, rfl⟩
abbrev main_v70 : Ref sig .tc := ⟨.hbm, 143, rfl⟩
abbrev main_c_15 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_c_16 : Ref sig .tc := ⟨.hbm, 149, rfl⟩
abbrev main_v75 : Ref sig .tc := ⟨.hbm, 150, rfl⟩
abbrev main_v76 : Ref sig .tc := ⟨.hbm, 151, rfl⟩
abbrev main_call9_call0_c : Ref sig .tc := ⟨.hbm, 152, rfl⟩
abbrev main_call9_call0_v0 : Ref sig .tc := ⟨.hbm, 153, rfl⟩
abbrev main_v77 : Ref sig .tc := ⟨.hbm, 154, rfl⟩
abbrev main_c_17 : Ref sig .tc := ⟨.hbm, 155, rfl⟩
abbrev main_v78 : Ref sig .tc := ⟨.hbm, 156, rfl⟩
abbrev main_v79 : Ref sig .tc := ⟨.hbm, 157, rfl⟩
abbrev main_call10_c : Ref sig .tc := ⟨.hbm, 158, rfl⟩
abbrev main_call10_v0 : Ref sig .tc := ⟨.hbm, 159, rfl⟩
abbrev main_call10_v1 : Ref sig .tc := ⟨.hbm, 160, rfl⟩
abbrev main_call10_c_0 : Ref sig .tc := ⟨.hbm, 161, rfl⟩
abbrev main_call10_v2 : Ref sig .tc := ⟨.hbm, 162, rfl⟩
abbrev main_call10_v3 : Ref sig .tc := ⟨.hbm, 163, rfl⟩
abbrev main_call10_v4 : Ref sig .tc := ⟨.hbm, 164, rfl⟩
abbrev main_call10_v5 : Ref sig .tc := ⟨.hbm, 165, rfl⟩
abbrev main_call10_c_1 : Ref sig .tc := ⟨.hbm, 166, rfl⟩
abbrev main_call10_c_2 : Ref sig .tc := ⟨.hbm, 167, rfl⟩
abbrev main_call10_v6 : Ref sig .tc := ⟨.hbm, 168, rfl⟩
abbrev main_call10_v7 : Ref sig .tc := ⟨.hbm, 169, rfl⟩
abbrev main_call10_v8 : Ref sig .tc := ⟨.hbm, 170, rfl⟩
abbrev main_call10_v9 : Ref sig .tc := ⟨.hbm, 171, rfl⟩
abbrev main_call10_v10 : Ref sig .tc := ⟨.hbm, 172, rfl⟩
abbrev main_call10_v11 : Ref sig .tc := ⟨.hbm, 173, rfl⟩
abbrev main_call10_c_3 : Ref sig .tc := ⟨.hbm, 174, rfl⟩
abbrev main_call10_v12 : Ref sig .tc := ⟨.hbm, 175, rfl⟩
abbrev main_call10_v13 : Ref sig .tc := ⟨.hbm, 176, rfl⟩
abbrev main_call10_c_4 : Ref sig .tc := ⟨.hbm, 177, rfl⟩
abbrev main_call10_v14 : Ref sig .tc := ⟨.hbm, 178, rfl⟩
abbrev main_v80 : Ref sig .tc := ⟨.hbm, 179, rfl⟩
abbrev main_cst_18 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_cst_19 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_call11_cst : Ref sig .tc := ⟨.hbm, 201, rfl⟩
abbrev main_call11_v0 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_call12_cst : Ref sig .tc := ⟨.hbm, 208, rfl⟩
abbrev main_call12_v0 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩

abbrev nD : Nat := 1
abbrev τ : Topo := Topo.v7x

variable {F : FTy → Type} [FloatOps F]
-- ==== Proof.Score.lean ====
/- The score of one set, written as plain sums: what both the kernel and the reference compute. -/
module

public import Idealize.ShloMosaic.PureOps.Ideal.Laws
public import Idealize.ShloMosaic.Lib.ValueIdxCore

@[expose] public section

noncomputable section

namespace Cert.Score

open Idealize.ShloMosaic
open Idealize.ShloMosaic.ValueIdx

/-- The weights and biases of the three networks. -/
structure Weights where
  /-- First layer of the read network. -/
  phi0 : Fin 24 → Fin 64 → EReal
  /-- Its bias. -/
  phi0b : Fin 64 → EReal
  /-- Second layer of the read network. -/
  phi1 : Fin 64 → Fin 64 → EReal
  /-- Its bias. -/
  phi1b : Fin 64 → EReal
  /-- First layer of the info network. -/
  om0 : Fin 10 → Fin 32 → EReal
  /-- Its bias. -/
  om0b : Fin 32 → EReal
  /-- Second layer of the info network. -/
  om1 : Fin 32 → Fin 32 → EReal
  /-- Its bias. -/
  om1b : Fin 32 → EReal
  /-- First layer of the aggregation network. -/
  rho0 : Fin 160 → Fin 64 → EReal
  /-- Its bias. -/
  rho0b : Fin 64 → EReal
  /-- Second layer of the aggregation network. -/
  rho1 : Fin 64 → Fin 32 → EReal
  /-- Its bias. -/
  rho1b : Fin 32 → EReal
  /-- Last layer of the aggregation network. -/
  rho2 : Fin 32 → EReal
  /-- Its bias. -/
  rho2b : EReal

/-- The weights and biases, taken out of the argument arrays. -/
def weights (x5 : FVec Ideal ⟨2, ![24, 64]⟩ .f32) (x6 : FVec Ideal ⟨1, ![64]⟩ .f32) (x7 : FVec Ideal ⟨2, ![64, 64]⟩ .f32) (x8 : FVec Ideal ⟨1, ![64]⟩ .f32)
    (x9 : FVec Ideal ⟨2, ![10, 32]⟩ .f32) (x10 : FVec Ideal ⟨1, ![32]⟩ .f32) (x11 : FVec Ideal ⟨2, ![32, 32]⟩ .f32) (x12 : FVec Ideal ⟨1, ![32]⟩ .f32)
    (x13 : FVec Ideal ⟨2, ![160, 64]⟩ .f32) (x14 : FVec Ideal ⟨1, ![64]⟩ .f32) (x15 : FVec Ideal ⟨2, ![64, 32]⟩ .f32) (x16 : FVec Ideal ⟨1, ![32]⟩ .f32)
    (x17 : FVec Ideal ⟨2, ![32, 1]⟩ .f32) (x18 : FVec Ideal ⟨1, ![1]⟩ .f32) : Weights where
  phi0 k j := x5 (ix2 k j)
  phi0b j := x6 (ix1 j)
  phi1 k j := x7 (ix2 k j)
  phi1b j := x8 (ix1 j)
  om0 k j := x9 (ix2 k j)
  om0b j := x10 (ix1 j)
  om1 k j := x11 (ix2 k j)
  om1b j := x12 (ix1 j)
  rho0 k j := x13 (ix2 k j)
  rho0b j := x14 (ix1 j)
  rho1 k j := x15 (ix2 k j)
  rho1b j := x16 (ix1 j)
  rho2 k := x17 (ix2 k 0)
  rho2b := x18 (ix1 0)

/-- Row `t` of a two-axis array. -/
def rowOf {a b : ℕ} (x : FVec Ideal (⟨2, ![a, b]⟩ : Shape) .f32) (t : Fin a) (k : Fin b) : EReal := x (ix2 t k)

/-- An affine layer: `x` times `w`, plus the bias. -/
def layer {n m : ℕ} (w : Fin n → Fin m → EReal) (b : Fin m → EReal) (x : Fin n → EReal) (j : Fin m) : EReal :=
  (∑ k, x k * w k j) + b j

/-- The positive part, entry by entry. -/
def relu {n : ℕ} (x : Fin n → EReal) (j : Fin n) : EReal := max (x j) 0

/-- Two layers with the positive part between them and the logistic function at the end. -/
def gate {n m q : ℕ} (w0 : Fin n → Fin m → EReal) (b0 : Fin m → EReal) (w1 : Fin m → Fin q → EReal) (b1 : Fin q → EReal)
    (x : Fin n → EReal) (j : Fin q) : EReal :=
  Ideal.logistic (layer w1 b1 (relu (layer w0 b0 x)) j)

/-- The mean over sixteen reads of the read network's output. -/
def mean (W : Weights) (reads : Fin 16 → Fin 24 → EReal) (j : Fin 64) : EReal :=
  (∑ k, gate W.phi0 W.phi0b W.phi1 W.phi1b (reads k) j) * ((1 / 16 : ℝ) : EReal)

/-- The info network's output. -/
def omega (W : Weights) (info : Fin 10 → EReal) : Fin 32 → EReal := gate W.om0 W.om0b W.om1 W.om1b info

/-- The aggregation network's first layer, over the two means and the info network's output. -/
def first (W : Weights) (mr ma : Fin 64 → EReal) (om : Fin 32 → EReal) (j : Fin 64) : EReal :=
  (∑ k : Fin 64, mr k * W.rho0 ⟨k.val, by omega⟩ j) + (∑ k : Fin 64, ma k * W.rho0 ⟨64 + k.val, by omega⟩ j)
    + (∑ k : Fin 32, om k * W.rho0 ⟨128 + k.val, by omega⟩ j) + W.rho0b j

/-- The aggregation network over its first layer's output. -/
def tail (W : Weights) (h : Fin 64 → EReal) : EReal :=
  (∑ k : Fin 32, relu (layer W.rho1 W.rho1b (relu h)) k * W.rho2 k) + W.rho2b

/-- The score of a set: its sixteen reference reads, its sixteen alternate reads and its info row; the last factor is the square root
    of the count. -/
def score (W : Weights) (ref alt : Fin 16 → Fin 24 → EReal) (info : Fin 10 → EReal) : EReal :=
  tail W (first W (mean W ref) (mean W alt) (omega W info)) * ((4 : ℝ) : EReal)

/-- A sum over 160 entries, split at 64 and at 128. -/
theorem sum_160 (f : Fin 160 → EReal) :
    ∑ k, f k = (∑ k : Fin 64, f ⟨k.val, by omega⟩) + (∑ k : Fin 64, f ⟨64 + k.val, by omega⟩)
      + (∑ k : Fin 32, f ⟨128 + k.val, by omega⟩) := by
  rw [show (∑ k, f k) = ∑ k : Fin (64 + 64 + 32), f (k.cast (by decide)) from rfl, Fin.sum_univ_add, Fin.sum_univ_add]
  rfl

/-- A sum over 128 entries, split at 64. -/
theorem sum_128 (f : Fin 128 → EReal) :
    ∑ k, f k = (∑ k : Fin 64, f ⟨k.val, by omega⟩) + ∑ k : Fin 64, f ⟨64 + k.val, by omega⟩ := by
  rw [show (∑ k, f k) = ∑ k : Fin (64 + 64), f (k.cast (by decide)) from rfl, Fin.sum_univ_add]
  rfl

/-- A sum over 48 entries, split at 24. -/
theorem sum_48 (f : Fin 48 → EReal) :
    ∑ k, f k = (∑ k : Fin 24, f ⟨k.val, by omega⟩) + ∑ k : Fin 24, f ⟨24 + k.val, by omega⟩ := by
  rw [show (∑ k, f k) = ∑ k : Fin (24 + 24), f (k.cast (by decide)) from rfl, Fin.sum_univ_add]
  rfl

end Cert.Score

end
-- ==== Proof.Block.lean ====
/- What one grid point of the kernel computes, at a set of its block, as plain sums of the blocks it loads. -/
module

public import proofs.«01_k».proof.Proof.Gen.KernelIdeal.Frame
public import proofs.«01_k».proof.Proof.Score
public import Idealize.ShloMosaic.Lib.MatmulPlain
public import Idealize.ShloMosaic.Lib.ValueLayout
public import Idealize.ShloMosaic.Lib.Pipeline.Value

@[expose] public section

set_option maxRecDepth 16384

noncomputable section

namespace Cert.Block

open Idealize.ShloMosaic
open Cert.KernelIdeal Cert.KernelIdeal.Gen Idealize.ShloMosaic.ValueIdx
open Cert.Score

/-- The kernel's zero. -/
theorem zero_bits : Ideal.ofBits .f32 0x00000000#32 = (0 : EReal) := by simp [Ideal.ofBits, Ideal.ieee]

/-- The kernel's sixteenth. -/
theorem sixteenth_bits : Ideal.ofBits .f32 0x3D800000#32 = ((1 / 16 : ℝ) : EReal) := by
  simp [Ideal.ofBits, Ideal.ieee]
  rw [← EReal.coe_mul]; norm_num

/-- The kernel's four. -/
theorem four_bits : Ideal.ofBits .f32 0x40800000#32 = ((4 : ℝ) : EReal) := by
  simp [Ideal.ofBits, Ideal.ieee]
  rw [← EReal.coe_mul]; norm_num

/-- A product of matrices plus a row broadcast down the rows is an affine layer of each row. -/
theorem layer_at {M K N : ℕ} (x : FVec Ideal ⟨2, ![M, K]⟩ .f32) (w : FVec Ideal ⟨2, ![K, N]⟩ .f32) (b : FVec Ideal ⟨2, ![1, N]⟩ .f32)
    (hb : (⟨2, ![1, N]⟩ : Shape).Broadcasts ⟨2, ![M, N]⟩) (r : Fin M) (c : Fin N) :
    (addf (matmul (DotDims.plain M K N) none x w (constant ⟨2, ![M, N]⟩ .f32 0x00000000#32)) (broadcastTo ⟨2, ![M, N]⟩ b hb) (ix2 r c) : EReal)
      = layer (fun k j => w (ix2 k j)) (fun j => b (ix2 0 j)) (rowOf x r) c := by
  show (FloatOps.matmul (DotDims.plain M K N) none x w (constant ⟨2, ![M, N]⟩ .f32 0x00000000#32) (ix2 r c) : EReal)
      + broadcastTo ⟨2, ![M, N]⟩ b hb (ix2 r c) = _
  rw [Ideal.matmul_plain_apply, broadcastTo_1b_ab_apply]
  show (Ideal.ofBits .f32 0x00000000#32 + _ : EReal) + _ = _
  rw [zero_bits, zero_add]
  rfl

/-- The positive part of an array, at a row. -/
theorem relu_row {M N : ℕ} (x : FVec Ideal ⟨2, ![M, N]⟩ .f32) (r : Fin M) :
    rowOf (maximumf x (broadcast ⟨2, ![M, N]⟩ (Scalar.ofBits .f32 0x00000000#32))) r = relu (rowOf x r) := by
  funext c
  show max (x (ix2 r c) : EReal) (Ideal.ofBits .f32 0x00000000#32) = _
  rw [zero_bits]
  rfl

/-- `layer_at`, a whole row at a time. -/
theorem layer_row {M K N : ℕ} (x : FVec Ideal ⟨2, ![M, K]⟩ .f32) (w : FVec Ideal ⟨2, ![K, N]⟩ .f32) (b : FVec Ideal ⟨2, ![1, N]⟩ .f32)
    (hb : (⟨2, ![1, N]⟩ : Shape).Broadcasts ⟨2, ![M, N]⟩) (r : Fin M) :
    rowOf (addf (matmul (DotDims.plain M K N) none x w (constant ⟨2, ![M, N]⟩ .f32 0x00000000#32)) (broadcastTo ⟨2, ![M, N]⟩ b hb)) r
      = layer (fun k j => w (ix2 k j)) (fun j => b (ix2 0 j)) (rowOf x r) :=
  funext fun c => layer_at x w b hb r c

/-- Rounding to a narrower format and back is the identity on extended reals. -/
theorem round_trip {s : Shape} (x : FVec Ideal s .f32) (h : FTy.bits .bf16 < FTy.bits .f32) : extf .f32 (truncf .bf16 x h) h = x := rfl

/-- The logistic function of an array, at a row. -/
theorem logistic_row {M N : ℕ} (x : FVec Ideal ⟨2, ![M, N]⟩ .f32) (r : Fin M) :
    rowOf (logistic x) r = fun c => Ideal.logistic (rowOf x r c) := rfl

/-- The two read rows side by side. -/
def joined (v0 v1 : FVec Ideal S16384x24 .f32) (t : Fin 16384) (k : Fin 48) : EReal :=
  if h : k.val < 24 then v0 (ix2 t ⟨k.val, h⟩) else v1 (ix2 t ⟨k.val - 24, by omega⟩)

/-- The concatenation of the two blocks of reads, at a row. -/
theorem joined_row (v0 v1 : FVec Ideal S16384x24 .f32) (t : Fin 16384) :
    rowOf (concatenate S16384x48 1 [⟨S16384x24, v0⟩, ⟨S16384x24, v1⟩] concatenates_S16384x24_S16384x24_S16384x48_d1) t = joined v0 v1 t := by
  funext k
  unfold joined rowOf
  split
  · rename_i h
    refine concatenate_pair_apply_left (t := S16384x48) 1 v0 v1 _ _ rfl (ix2 t ⟨k.val, h⟩) fun b => ?_
    match b with
    | ⟨0, _⟩ => rfl
    | ⟨1, _⟩ => rfl
  · rename_i h
    refine concatenate_pair_apply_right (t := S16384x48) 1 v0 v1 _ _ rfl rfl (ix2 t ⟨k.val - 24, by omega⟩) (fun b hb => ?_) ?_
    · match b with
      | ⟨0, _⟩ => rfl
      | ⟨1, _⟩ => exact absurd rfl hb
    · show k.val - 24 + 24 = k.val
      omega

/-- Read `k` of set `s` of the block. -/
abbrev readRow (s : Fin 1024) (k : Fin 16) : Fin 16384 := ⟨16 * s.val + k.val, by omega⟩

/-- The sums over a set's sixteen reads. -/
theorem group_sum (x : FVec Ideal S16384x128 .f32) (s : Fin 1024) (j : Fin 128) :
    multiReduction .add [1] S1024x128 (shapeCast S1024x16x128 x shapeCasts_S16384x128_S1024x16x128) 0x00000000#32
        reduces_S1024x16x128_S1024x128 (.inl rfl) rfl (ix2 s j) = (∑ k : Fin 16, x (ix2 (readRow s k) j) : EReal) := by
  refine (Ideal.multiReduction_add_single (a := 1) _ _ reduces_S1024x16x128_S1024x128 (.inl rfl) rfl (ix2 s j)).trans ?_
  refine Finset.sum_congr rfl fun k _ => ?_
  refine shapeCast_apply x _ _ (ix2 (readRow s k) j) ?_
  rw [Shape.rowMajor_val_two, Shape.rowMajor_val_three]
  show (16 * s.val + k.val) * 128 + j.val = (s.val * 16 + k.val) * 128 + j.val
  omega

/-- The sum over a row's 32 lanes. -/
theorem lane_sum (x : FVec Ideal S1024x32 .f32) (s : Fin 1024) :
    multiReduction .add [1] S1024 x 0x00000000#32 reduces_S1024x32_S1024 (.inl rfl) rfl (ix1 s) = (∑ k : Fin 32, x (ix2 s k) : EReal) := by
  refine (Ideal.multiReduction_add_single (a := 1) _ _ reduces_S1024x32_S1024 (.inl rfl) rfl (ix1 s)).trans ?_
  refine Finset.sum_congr rfl fun k _ => congrArg x ?_
  exact eq_ix2 _

/-- The means of the read network over each set's sixteen reads, both kinds side by side. -/
theorem means_at (v0 v1 : FVec Ideal S16384x24 .f32) (v3 : FVec Ideal S48x128 .f32) (v8 : FVec Ideal S1x128 .f32)
    (v14 : FVec Ideal S128x128 .f32) (v19 : FVec Ideal S1x128 .f32) (s : Fin 1024) :
    rowOf (k0_pay2 (F := Ideal) v0 v1 v3 v8 v14 v19) s = fun j =>
      (∑ k : Fin 16, gate (fun k j => v3 (ix2 k j)) (fun j => v8 (ix2 0 j)) (fun k j => v14 (ix2 k j)) (fun j => v19 (ix2 0 j))
        (joined v0 v1 (readRow s k)) j) * ((1 / 16 : ℝ) : EReal) := by
  funext j
  unfold k0_pay2
  simp only [shapeCast_self, round_trip]
  show (_ : EReal) * Ideal.ofBits .f32 0x3D800000#32 = _
  rw [sixteenth_bits, group_sum]
  refine congrArg (· * _) (Finset.sum_congr rfl fun k _ => ?_)
  show Ideal.logistic _ = Ideal.logistic _
  refine congrArg Ideal.logistic ?_
  refine (layer_at _ _ _ _ _ _).trans ?_
  rw [relu_row]
  refine congrArg (fun y => layer _ _ (relu y) j) ?_
  refine (layer_row _ _ _ _ _).trans ?_
  rw [joined_row]

/-- The info network's first product. -/
theorem info_at (v28 : FVec Ideal S1024x10 .f32) (v29 : FVec Ideal S10x32 .f32) :
    k0_pay3 (F := Ideal) v28 v29 = matmul (DotDims.plain 1024 10 32) none v28 v29 (constant S1024x32 .f32 0x00000000#32) := by
  unfold k0_pay3
  simp only [shapeCast_self, round_trip]
  rfl

/-- The aggregation network's second layer before its positive part, at a set. -/
theorem second_at (v27 : FVec Ideal S1024x128 .f32) (v28 : FVec Ideal S1024x10 .f32) (v29 : FVec Ideal S10x32 .f32)
    (v34 : FVec Ideal S1x32 .f32) (v40 : FVec Ideal S32x32 .f32) (v45 : FVec Ideal S1x32 .f32) (v50 : FVec Ideal S128x64 .f32)
    (v55 : FVec Ideal S32x64 .f32) (v61 : FVec Ideal S1x64 .f32) (v67 : FVec Ideal S64x32 .f32) (v72 : FVec Ideal S1x32 .f32)
    (s : Fin 1024) :
    rowOf (addf (k0_pay4 (F := Ideal) v27 (k0_pay3 v28 v29) v34 v40 v45 v50 v55 v61 v67) (k0_pay5 v72)) s
      = layer (fun k j => v67 (ix2 k j)) (fun j => v72 (ix2 0 j)) (relu fun j =>
          (∑ k, rowOf v27 s k * v50 (ix2 k j)) + (∑ k, gate (fun k j => v29 (ix2 k j)) (fun j => v34 (ix2 0 j)) (fun k j => v40 (ix2 k j))
            (fun j => v45 (ix2 0 j)) (rowOf v28 s) k * v55 (ix2 k j)) + v61 (ix2 0 j)) := by
  rw [info_at]
  unfold k0_pay4 k0_pay5
  simp only [shapeCast_self, round_trip]
  refine (layer_row _ _ _ _ _).trans ?_
  rw [relu_row]
  refine congrArg (fun y => layer _ _ (relu y)) ?_
  funext j
  refine congrArg₂ (fun a b : EReal => a + b) (congrArg₂ (fun a b : EReal => a + b) ?_ ?_) (broadcastTo_1b_ab_apply _ _ _ _)
  · refine (Ideal.matmul_plain_apply (M := 1024) (K := 128) (N := 64) none _ _ _ s j).trans ?_
    show (Ideal.ofBits .f32 0x00000000#32 + _ : EReal) = _
    rw [zero_bits, zero_add]
    rfl
  · refine (Ideal.matmul_plain_apply (M := 1024) (K := 32) (N := 64) none _ _ _ s j).trans ?_
    show (Ideal.ofBits .f32 0x00000000#32 + _ : EReal) = _
    rw [zero_bits, zero_add]
    refine Finset.sum_congr rfl fun k _ => congrArg (· * v55 (ix2 k j)) ?_
    show Ideal.logistic _ = Ideal.logistic _
    refine congrArg Ideal.logistic ?_
    refine (layer_at _ _ _ _ _ _).trans ?_
    rw [relu_row]
    refine congrArg (fun y => layer _ _ (relu y) k) ?_
    exact layer_row _ _ _ _ _

/-- The last product, as a sum over the lanes, plus the bias, times four. -/
theorem score_at (a b : FVec Ideal S1024x32 .f32) (v80 : FVec Ideal S1x32 .f32) (v85 : FVec Ideal S1x1 .f32) (s : Fin 1024) :
    (k0_pay1 (F := Ideal) a b v80 v85 (ix1 s) : EReal)
      = ((∑ k : Fin 32, relu (rowOf (addf a b) s) k * v80 (ix2 0 k)) + v85 (ix2 0 0)) * ((4 : ℝ) : EReal) := by
  unfold k0_pay1
  simp only [shapeCast_self, round_trip]
  show ((_ : EReal) + _) * Ideal.ofBits .f32 0x40800000#32 = _
  rw [four_bits, lane_sum]
  refine congrArg (· * _) (congrArg₂ (fun a b : EReal => a + b) (Finset.sum_congr rfl fun k _ => ?_) (congrArg v85 (eq_ix2 _)))
  refine congrArg₂ (fun a b : EReal => a * b) ?_ (broadcastTo_1b_ab_apply _ _ _ _)
  exact congrFun (relu_row (addf a b) s) k

end Cert.Block

end
-- ==== Proof.BlockScore.lean ====
/- One grid point of the kernel, with the weights laid out as the program lays them out, computes the score of each set of its block. -/
module

public import proofs.«01_k».proof.Proof.Block

@[expose] public section

set_option maxRecDepth 16384

noncomputable section

namespace Cert.BlockScore

open Idealize.ShloMosaic
open Cert.KernelIdeal Cert.KernelIdeal.Gen Idealize.ShloMosaic.ValueIdx
open Cert.Score Cert.Block

/-- The weight blocks a grid point loads, as arrays of the weights: the read network's two layers twice over, on the two diagonal
    corners of one matrix with zeros in the others; the aggregation network's first layer cut at row 128; its last layer as one row. -/
structure Prepared (W : Weights) (x3 : FVec Ideal S48x128 .f32) (x4 : FVec Ideal S1x128 .f32) (x5 : FVec Ideal S128x128 .f32)
    (x6 : FVec Ideal S1x128 .f32) (x7 : FVec Ideal S10x32 .f32) (x8 : FVec Ideal S1x32 .f32) (x9 : FVec Ideal S32x32 .f32)
    (x10 : FVec Ideal S1x32 .f32) (x11 : FVec Ideal S128x64 .f32) (x12 : FVec Ideal S32x64 .f32) (x13 : FVec Ideal S1x64 .f32)
    (x14 : FVec Ideal S64x32 .f32) (x15 : FVec Ideal S1x32 .f32) (x16 : FVec Ideal S1x32 .f32) (x17 : FVec Ideal S1x1 .f32) : Prop where
  /-- Upper left corner of the first layer. -/
  phi0_ul : ∀ (k : Fin 24) (j : Fin 64), x3 (ix2 (⟨k.val, by omega⟩ : Fin 48) (⟨j.val, by omega⟩ : Fin 128)) = W.phi0 k j
  /-- Upper right corner. -/
  phi0_ur : ∀ (k : Fin 24) (j : Fin 64), x3 (ix2 (⟨k.val, by omega⟩ : Fin 48) (⟨64 + j.val, by omega⟩ : Fin 128)) = (0 : EReal)
  /-- Lower left corner. -/
  phi0_ll : ∀ (k : Fin 24) (j : Fin 64), x3 (ix2 (⟨24 + k.val, by omega⟩ : Fin 48) (⟨j.val, by omega⟩ : Fin 128)) = (0 : EReal)
  /-- Lower right corner. -/
  phi0_lr : ∀ (k : Fin 24) (j : Fin 64), x3 (ix2 (⟨24 + k.val, by omega⟩ : Fin 48) (⟨64 + j.val, by omega⟩ : Fin 128)) = W.phi0 k j
  /-- Left half of its bias. -/
  phi0b_l : ∀ j : Fin 64, x4 (ix2 0 (⟨j.val, by omega⟩ : Fin 128)) = W.phi0b j
  /-- Right half. -/
  phi0b_r : ∀ j : Fin 64, x4 (ix2 0 (⟨64 + j.val, by omega⟩ : Fin 128)) = W.phi0b j
  /-- Upper left corner of the second layer. -/
  phi1_ul : ∀ k j : Fin 64, x5 (ix2 (⟨k.val, by omega⟩ : Fin 128) (⟨j.val, by omega⟩ : Fin 128)) = W.phi1 k j
  /-- Upper right corner. -/
  phi1_ur : ∀ k j : Fin 64, x5 (ix2 (⟨k.val, by omega⟩ : Fin 128) (⟨64 + j.val, by omega⟩ : Fin 128)) = (0 : EReal)
  /-- Lower left corner. -/
  phi1_ll : ∀ k j : Fin 64, x5 (ix2 (⟨64 + k.val, by omega⟩ : Fin 128) (⟨j.val, by omega⟩ : Fin 128)) = (0 : EReal)
  /-- Lower right corner. -/
  phi1_lr : ∀ k j : Fin 64, x5 (ix2 (⟨64 + k.val, by omega⟩ : Fin 128) (⟨64 + j.val, by omega⟩ : Fin 128)) = W.phi1 k j
  /-- Left half of its bias. -/
  phi1b_l : ∀ j : Fin 64, x6 (ix2 0 (⟨j.val, by omega⟩ : Fin 128)) = W.phi1b j
  /-- Right half. -/
  phi1b_r : ∀ j : Fin 64, x6 (ix2 0 (⟨64 + j.val, by omega⟩ : Fin 128)) = W.phi1b j
  /-- The info network's first layer. -/
  om0 : ∀ k j, x7 (ix2 k j) = W.om0 k j
  /-- Its bias. -/
  om0b : ∀ j, x8 (ix2 0 j) = W.om0b j
  /-- The info network's second layer. -/
  om1 : ∀ k j, x9 (ix2 k j) = W.om1 k j
  /-- Its bias. -/
  om1b : ∀ j, x10 (ix2 0 j) = W.om1b j
  /-- The aggregation network's first layer: the rows of the two means. -/
  rho0_means : ∀ (k : Fin 128) j, x11 (ix2 k j) = W.rho0 ⟨k.val, by omega⟩ j
  /-- The rows of the info network's output. -/
  rho0_info : ∀ (k : Fin 32) j, x12 (ix2 k j) = W.rho0 ⟨128 + k.val, by omega⟩ j
  /-- Its bias. -/
  rho0b : ∀ j, x13 (ix2 0 j) = W.rho0b j
  /-- The aggregation network's second layer. -/
  rho1 : ∀ k j, x14 (ix2 k j) = W.rho1 k j
  /-- Its bias. -/
  rho1b : ∀ j, x15 (ix2 0 j) = W.rho1b j
  /-- The aggregation network's last layer. -/
  rho2 : ∀ k, x16 (ix2 0 k) = W.rho2 k
  /-- Its bias. -/
  rho2b : x17 (ix2 0 0) = W.rho2b

/-- The body's result for the output block is its payload on the whole input blocks. -/
theorem out_eq (x0 x1 : FVec Ideal S16384x24 .f32) (x2 : FVec Ideal S1024x10 .f32) (x3 : FVec Ideal S48x128 .f32)
    (x4 : FVec Ideal S1x128 .f32) (x5 : FVec Ideal S128x128 .f32)
    (x6 : FVec Ideal S1x128 .f32) (x7 : FVec Ideal S10x32 .f32) (x8 : FVec Ideal S1x32 .f32) (x9 : FVec Ideal S32x32 .f32)
    (x10 : FVec Ideal S1x32 .f32) (x11 : FVec Ideal S128x64 .f32) (x12 : FVec Ideal S32x64 .f32) (x13 : FVec Ideal S1x64 .f32)
    (x14 : FVec Ideal S64x32 .f32) (x15 : FVec Ideal S1x32 .f32) (x16 : FVec Ideal S1x32 .f32) (x17 : FVec Ideal S1x1 .f32) :
    out0_18 (F := Ideal) x0 x1 x2 x3 x4 x5 x6 x7 x8 x9 x10 x11 x12 x13 x14 x15 x16 x17
      = k0_pay1 (F := Ideal) (k0_pay4 (k0_pay2 x0 x1 x3 x4 x5 x6) (k0_pay3 x2 x7) x8 x9 x10 x11 x12 x13 x14) (k0_pay5 x15) x16 x17 := by
  have hz1 : (![0] : Fin 1 → Nat) = fun _ => 0 := funext fun a => by fin_cases a <;> rfl
  have hz2 : (![0, 0] : Fin 2 → Nat) = fun _ => 0 := funext fun a => by fin_cases a <;> rfl
  unfold out0_18
  rw [View.canon_unit_zero hz1]
  simp only [View.ld_unit_zero (S := S16384x24) hz2, View.ld_unit_zero (S := S1024x10) hz2, View.ld_unit_zero (S := S48x128) hz2,
    View.ld_unit_zero (S := S1x128) hz2, View.ld_unit_zero (S := S128x128) hz2, View.ld_unit_zero (S := S10x32) hz2,
    View.ld_unit_zero (S := S1x32) hz2, View.ld_unit_zero (S := S32x32) hz2, View.ld_unit_zero (S := S128x64) hz2,
    View.ld_unit_zero (S := S32x64) hz2, View.ld_unit_zero (S := S1x64) hz2, View.ld_unit_zero (S := S64x32) hz2,
    View.ld_unit_zero (S := S1x1) hz2]

section gates

variable {W : Weights} {x3 : FVec Ideal S48x128 .f32} {x4 : FVec Ideal S1x128 .f32} {x5 : FVec Ideal S128x128 .f32}
    {x6 : FVec Ideal S1x128 .f32} {x7 : FVec Ideal S10x32 .f32} {x8 : FVec Ideal S1x32 .f32} {x9 : FVec Ideal S32x32 .f32}
    {x10 : FVec Ideal S1x32 .f32} {x11 : FVec Ideal S128x64 .f32} {x12 : FVec Ideal S32x64 .f32} {x13 : FVec Ideal S1x64 .f32}
    {x14 : FVec Ideal S64x32 .f32} {x15 : FVec Ideal S1x32 .f32} {x16 : FVec Ideal S1x32 .f32} {x17 : FVec Ideal S1x1 .f32}
    (hP : Prepared W x3 x4 x5 x6 x7 x8 x9 x10 x11 x12 x13 x14 x15 x16 x17)
include hP

/-- The left 64 lanes of the first layer on the two reads side by side: the first layer on the reference read. -/
theorem first_left (x0 x1 : FVec Ideal S16384x24 .f32) (t : Fin 16384) (j : Fin 64) :
    layer (fun k j => x3 (ix2 k j)) (fun j => x4 (ix2 0 j)) (joined x0 x1 t) ⟨j.val, by omega⟩ = layer W.phi0 W.phi0b (rowOf x0 t) j := by
  unfold layer
  rw [sum_48]
  simp only [hP.phi0_ul, hP.phi0_ll, hP.phi0b_l, mul_zero, Finset.sum_const_zero, add_zero]
  refine congrArg (· + _) (Finset.sum_congr rfl fun k _ => congrArg (· * _) ?_)
  exact dif_pos (show k.val < 24 from k.isLt)

/-- The right 64 lanes: the first layer on the alternate read. -/
theorem first_right (x0 x1 : FVec Ideal S16384x24 .f32) (t : Fin 16384) (j : Fin 64) :
    layer (fun k j => x3 (ix2 k j)) (fun j => x4 (ix2 0 j)) (joined x0 x1 t) ⟨64 + j.val, by omega⟩ = layer W.phi0 W.phi0b (rowOf x1 t) j := by
  unfold layer
  rw [sum_48]
  simp only [hP.phi0_ur, hP.phi0_lr, hP.phi0b_r, mul_zero, Finset.sum_const_zero, zero_add]
  refine congrArg (· + _) (Finset.sum_congr rfl fun k _ => congrArg (· * _) ?_)
  refine (dif_neg (show ¬ 24 + k.val < 24 by omega)).trans ?_
  exact congrArg x1 (congrArg (ix2 t) (Fin.ext (Nat.add_sub_cancel_left ..)))

/-- The left 64 lanes of the doubled read network: the read network on the reference read. -/
theorem gate_left (x0 x1 : FVec Ideal S16384x24 .f32) (t : Fin 16384) (j : Fin 64) :
    gate (fun k j => x3 (ix2 k j)) (fun j => x4 (ix2 0 j)) (fun k j => x5 (ix2 k j)) (fun j => x6 (ix2 0 j)) (joined x0 x1 t)
      ⟨j.val, by omega⟩ = gate W.phi0 W.phi0b W.phi1 W.phi1b (rowOf x0 t) j := by
  unfold gate
  refine congrArg Ideal.logistic ?_
  rw [layer, sum_128]
  simp only [hP.phi1_ul, hP.phi1_ll, hP.phi1b_l, mul_zero, Finset.sum_const_zero, add_zero, relu, first_left hP]
  rfl

/-- The right 64 lanes: the read network on the alternate read. -/
theorem gate_right (x0 x1 : FVec Ideal S16384x24 .f32) (t : Fin 16384) (j : Fin 64) :
    gate (fun k j => x3 (ix2 k j)) (fun j => x4 (ix2 0 j)) (fun k j => x5 (ix2 k j)) (fun j => x6 (ix2 0 j)) (joined x0 x1 t)
      ⟨64 + j.val, by omega⟩ = gate W.phi0 W.phi0b W.phi1 W.phi1b (rowOf x1 t) j := by
  unfold gate
  refine congrArg Ideal.logistic ?_
  rw [layer, sum_128]
  simp only [hP.phi1_ur, hP.phi1_lr, hP.phi1b_r, mul_zero, Finset.sum_const_zero, zero_add, relu, first_right hP]
  rfl

/-- The output block at a set: the score of that set, of the rows of the loaded blocks. -/
theorem block_score (x0 x1 : FVec Ideal S16384x24 .f32) (x2 : FVec Ideal S1024x10 .f32) (s : Fin 1024) :
    (out0_18 (F := Ideal) x0 x1 x2 x3 x4 x5 x6 x7 x8 x9 x10 x11 x12 x13 x14 x15 x16 x17 (ix1 s) : EReal)
      = score W (fun k => rowOf x0 (readRow s k)) (fun k => rowOf x1 (readRow s k)) (rowOf x2 s) := by
  rw [out_eq, score_at, second_at, means_at]
  unfold score tail
  simp only [sum_128, gate_left hP, gate_right hP, hP.om0, hP.om0b, hP.om1, hP.om1b, hP.rho0_means, hP.rho0_info, hP.rho0b, hP.rho1,
    hP.rho1b, hP.rho2, hP.rho2b]
  rfl

end gates

end Cert.BlockScore

end
-- ==== Proof.HostWeights.lean ====
/- The weight arrays the host prepares before the launch, read at an index. -/
module

public import proofs.«01_k».proof.Proof.Gen.KernelIdeal.Frame
public import proofs.«01_k».proof.Proof.BlockScore
public import Idealize.ShloMosaic.Lib.StableHlo.RunRead

@[expose] public section

set_option maxRecDepth 16384

noncomputable section

namespace Cert.HostWeights

open Idealize.ShloMosaic Idealize.ShloMosaic.TcCoe
open Cert.KernelIdeal Cert.KernelIdeal.Gen Idealize.ShloMosaic.ValueIdx

variable (m : (ℓ : Loc nD τ sig) → Buf (Elt Ideal) ℓ) (c : Dev nD)

/-- The doubled first layer of the read network: the layer beside zeros, above zeros beside the layer. -/
theorem V_main_v13 : V m c main_v13 = concatenate S48x128 0
    [⟨S24x128, concatenate S24x128 1 [⟨S24x64, m ((c : Thread nD τ).loc main_arg5)⟩,
        ⟨S24x64, broadcastInDim S24x64 ![] bcast_S_S24x64 (constant (F := Ideal) S_ .f32 0x00000000#32)⟩] concatenates_S24x64_S24x64_S24x128_d1⟩,
      ⟨S24x128, concatenate S24x128 1 [⟨S24x64, broadcastInDim S24x64 ![] bcast_S_S24x64 (constant (F := Ideal) S_ .f32 0x00000000#32)⟩,
        ⟨S24x64, m ((c : Thread nD τ).loc main_arg5)⟩] concatenates_S24x64_S24x64_S24x128_d1⟩] concatenates_S24x128_S24x128_S48x128_d0 := by
  unfold_abbrev_sides
  after_reads_simp
  rfl

/-- The first layer's bias, twice over. -/
theorem V_main_v9 : V m c main_v9 = shapeCast S1x128 (concatenate S128 0 [⟨S64, m ((c : Thread nD τ).loc main_arg6)⟩, ⟨S64, m ((c : Thread nD τ).loc main_arg6)⟩] concatenates_S64_S64_S128_d0) shapeCasts_S128_S1x128 := by
  unfold_abbrev_sides
  after_reads_simp
  rfl

/-- The doubled second layer of the read network. -/
theorem V_main_v15 : V m c main_v15 = concatenate S128x128 0
    [⟨S64x128, concatenate S64x128 1 [⟨S64x64, m ((c : Thread nD τ).loc main_arg7)⟩,
        ⟨S64x64, broadcastInDim S64x64 ![] bcast_S_S64x64 (constant (F := Ideal) S_ .f32 0x00000000#32)⟩] concatenates_S64x64_S64x64_S64x128_d1⟩,
      ⟨S64x128, concatenate S64x128 1 [⟨S64x64, broadcastInDim S64x64 ![] bcast_S_S64x64 (constant (F := Ideal) S_ .f32 0x00000000#32)⟩,
        ⟨S64x64, m ((c : Thread nD τ).loc main_arg7)⟩] concatenates_S64x64_S64x64_S64x128_d1⟩] concatenates_S64x128_S64x128_S128x128_d0 := by
  unfold_abbrev_sides
  after_reads_simp
  rfl

/-- The second layer's bias, twice over. -/
theorem V_main_v11 : V m c main_v11 = shapeCast S1x128 (concatenate S128 0 [⟨S64, m ((c : Thread nD τ).loc main_arg8)⟩, ⟨S64, m ((c : Thread nD τ).loc main_arg8)⟩] concatenates_S64_S64_S128_d0) shapeCasts_S128_S1x128 := by
  unfold_abbrev_sides
  after_reads_simp
  rfl

/-- The info network's first layer. -/
theorem V_main_v17 : V m c main_v17 = m ((c : Thread nD τ).loc main_arg9) := by
  unfold_abbrev_sides
  after_reads_simp
  rfl

/-- Its bias, as a row. -/
theorem V_main_v18 : V m c main_v18 = shapeCast S1x32 (m ((c : Thread nD τ).loc main_arg10) : FVec Ideal S32 .f32) shapeCasts_S32_S1x32 := by
  unfold_abbrev_sides
  after_reads_simp
  rfl

/-- The info network's second layer. -/
theorem V_main_v20 : V m c main_v20 = m ((c : Thread nD τ).loc main_arg11) := by
  unfold_abbrev_sides
  after_reads_simp
  rfl

/-- Its bias, as a row. -/
theorem V_main_v21 : V m c main_v21 = shapeCast S1x32 (m ((c : Thread nD τ).loc main_arg12) : FVec Ideal S32 .f32) shapeCasts_S32_S1x32 := by
  unfold_abbrev_sides
  after_reads_simp
  rfl

/-- The first 128 rows of the aggregation network's first layer. -/
theorem V_main_v24 : V m c main_v24 = extractStridedSlice S128x64 ![0, 0] (m ((c : Thread nD τ).loc main_arg13) : FVec Ideal S160x64 .f32) slices_S160x64_S128x64_0_0 := by
  unfold_abbrev_sides
  after_reads_simp
  rfl

/-- Its last 32 rows. -/
theorem V_main_v27 : V m c main_v27 = extractStridedSlice S32x64 ![128, 0] (m ((c : Thread nD τ).loc main_arg13) : FVec Ideal S160x64 .f32) slices_S160x64_S32x64_128_0 := by
  unfold_abbrev_sides
  after_reads_simp
  rfl

/-- Its bias, as a row. -/
theorem V_main_v28 : V m c main_v28 = shapeCast S1x64 (m ((c : Thread nD τ).loc main_arg14) : FVec Ideal S64 .f32) shapeCasts_S64_S1x64 := by
  unfold_abbrev_sides
  after_reads_simp
  rfl

/-- The aggregation network's second layer. -/
theorem V_main_v30 : V m c main_v30 = m ((c : Thread nD τ).loc main_arg15) := by
  unfold_abbrev_sides
  after_reads_simp
  rfl

/-- Its bias, as a row. -/
theorem V_main_v31 : V m c main_v31 = shapeCast S1x32 (m ((c : Thread nD τ).loc main_arg16) : FVec Ideal S32 .f32) shapeCasts_S32_S1x32 := by
  unfold_abbrev_sides
  after_reads_simp
  rfl

/-- The aggregation network's last layer, as a row. -/
theorem V_main_v34 : V m c main_v34 = shapeCast S1x32 (m ((c : Thread nD τ).loc main_arg17) : FVec Ideal S32x1 .f32) shapeCasts_S32x1_S1x32 := by
  unfold_abbrev_sides
  after_reads_simp
  rfl

/-- Its bias. -/
theorem V_main_v35 : V m c main_v35 = shapeCast S1x1 (m ((c : Thread nD τ).loc main_arg18) : FVec Ideal S1 .f32) shapeCasts_S1_S1x1 := by
  unfold_abbrev_sides
  after_reads_simp
  rfl

end Cert.HostWeights

end
-- ==== Proof.PreparedWeights.lean ====
/- The weight arrays the host prepares are the arrays of the weights that a grid point's block expects. -/
module

public import proofs.«01_k».proof.Proof.HostWeights

@[expose] public section

set_option maxRecDepth 16384

noncomputable section

namespace Cert.PreparedWeights

open Idealize.ShloMosaic Idealize.ShloMosaic.TcCoe
open Cert.KernelIdeal Cert.KernelIdeal.Gen Idealize.ShloMosaic.ValueIdx
open Cert.Score Cert.BlockScore Cert.HostWeights

section blocks

variable {α : Type} {n n2 q q2 : ℕ} (a b : (⟨2, ![n, q]⟩ : Shape).Idx → α)

/-- Two arrays side by side, at a column of the first. -/
theorem beside_left (h : Shape.Concatenates [⟨2, ![n, q]⟩, ⟨2, ![n, q]⟩] ⟨2, ![n, q2]⟩ 1) (k : Fin n) (j : Fin q) (hj : j.val < q2) :
    concatenate (⟨2, ![n, q2]⟩ : Shape) 1 [⟨_, a⟩, ⟨_, b⟩] h (ix2 k (⟨j.val, hj⟩ : Fin q2)) = a (ix2 k j) := by
  refine concatenate_pair_apply_left (t := (⟨2, ![n, q2]⟩ : Shape)) 1 a b h _ rfl (ix2 k j) fun d => ?_
  match d with
  | ⟨0, _⟩ => rfl
  | ⟨1, _⟩ => rfl

/-- Two arrays side by side, at a column of the second. -/
theorem beside_right (h : Shape.Concatenates [⟨2, ![n, q]⟩, ⟨2, ![n, q]⟩] ⟨2, ![n, q2]⟩ 1) (k : Fin n) (j : Fin q) (hj : q + j.val < q2) :
    concatenate (⟨2, ![n, q2]⟩ : Shape) 1 [⟨_, a⟩, ⟨_, b⟩] h (ix2 k (⟨q + j.val, hj⟩ : Fin q2)) = b (ix2 k j) := by
  refine concatenate_pair_apply_right (t := (⟨2, ![n, q2]⟩ : Shape)) 1 a b h _ rfl rfl (ix2 k j) (fun d hd => ?_) (Nat.add_comm _ _)
  match d with
  | ⟨0, _⟩ => rfl
  | ⟨1, _⟩ => exact absurd rfl hd

/-- One array above another, at a row of the first. -/
theorem above_upper (h : Shape.Concatenates [⟨2, ![n, q]⟩, ⟨2, ![n, q]⟩] ⟨2, ![n2, q]⟩ 0) (k : Fin n) (j : Fin q) (hk : k.val < n2) :
    concatenate (⟨2, ![n2, q]⟩ : Shape) 0 [⟨_, a⟩, ⟨_, b⟩] h (ix2 (⟨k.val, hk⟩ : Fin n2) j) = a (ix2 k j) := by
  refine concatenate_pair_apply_left (t := (⟨2, ![n2, q]⟩ : Shape)) 0 a b h _ rfl (ix2 k j) fun d => ?_
  match d with
  | ⟨0, _⟩ => rfl
  | ⟨1, _⟩ => rfl

/-- One array above another, at a row of the second. -/
theorem above_lower (h : Shape.Concatenates [⟨2, ![n, q]⟩, ⟨2, ![n, q]⟩] ⟨2, ![n2, q]⟩ 0) (k : Fin n) (j : Fin q) (hk : n + k.val < n2) :
    concatenate (⟨2, ![n2, q]⟩ : Shape) 0 [⟨_, a⟩, ⟨_, b⟩] h (ix2 (⟨n + k.val, hk⟩ : Fin n2) j) = b (ix2 k j) := by
  refine concatenate_pair_apply_right (t := (⟨2, ![n2, q]⟩ : Shape)) 0 a b h _ rfl rfl (ix2 k j) (fun d hd => ?_) (Nat.add_comm _ _)
  match d with
  | ⟨0, _⟩ => exact absurd rfl hd
  | ⟨1, _⟩ => rfl

end blocks

/-- A vector cast to one row reads its entries. -/
theorem row_cast {α : Type} {n : ℕ} (x : (⟨1, ![n]⟩ : Shape).Idx → α) (h : (⟨1, ![n]⟩ : Shape).ShapeCasts ⟨2, ![1, n]⟩) (j : Fin n) :
    shapeCast (⟨2, ![1, n]⟩ : Shape) x h (ix2 0 j) = x (ix1 j) := by
  refine shapeCast_apply x h _ (ix1 j) ?_
  rw [Shape.rowMajor_val_one, Shape.rowMajor_val_two]
  show j.val = 0 * n + j.val
  omega

/-- A column cast to one row reads its entries. -/
theorem column_cast {α : Type} {n : ℕ} (x : (⟨2, ![n, 1]⟩ : Shape).Idx → α) (h : (⟨2, ![n, 1]⟩ : Shape).ShapeCasts ⟨2, ![1, n]⟩) (j : Fin n) :
    shapeCast (⟨2, ![1, n]⟩ : Shape) x h (ix2 0 j) = x (ix2 j 0) := by
  refine shapeCast_apply x h _ (ix2 j 0) ?_
  rw [Shape.rowMajor_val_two, Shape.rowMajor_val_two]
  show j.val * 1 + 0 = 0 * n + j.val
  omega

/-- A bias laid end to end with itself, in its first half. -/
theorem twice_left (x : FVec Ideal S64 .f32) (j : Fin 64) :
    shapeCast S1x128 (concatenate S128 0 [⟨S64, x⟩, ⟨S64, x⟩] concatenates_S64_S64_S128_d0) shapeCasts_S128_S1x128
      (ix2 0 (⟨j.val, by omega⟩ : Fin 128)) = x (ix1 j) := by
  refine (row_cast _ _ _).trans ?_
  refine concatenate_pair_apply_left (t := S128) 0 x x _ _ rfl (ix1 j) fun d => ?_
  match d with
  | ⟨0, _⟩ => rfl

/-- And in its second half. -/
theorem twice_right (x : FVec Ideal S64 .f32) (j : Fin 64) :
    shapeCast S1x128 (concatenate S128 0 [⟨S64, x⟩, ⟨S64, x⟩] concatenates_S64_S64_S128_d0) shapeCasts_S128_S1x128
      (ix2 0 (⟨64 + j.val, by omega⟩ : Fin 128)) = x (ix1 j) := by
  refine (row_cast _ _ _).trans ?_
  refine concatenate_pair_apply_right (t := S128) 0 x x _ _ rfl rfl (ix1 j) (fun d hd => ?_) (Nat.add_comm _ _)
  match d with
  | ⟨0, _⟩ => exact absurd rfl hd

variable (m : (ℓ : Loc nD τ sig) → Buf (Elt Ideal) ℓ) (c : Dev nD)

/-- The weights, taken out of the launch's arguments. -/
abbrev argWeights : Weights :=
  weights (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17)) (m ((c : Thread nD τ).loc main_arg18))

/-- The arrays the host prepares hold the weights as a grid point expects them. -/
theorem prepared : Prepared (argWeights m c) (V m c main_v13) (V m c main_v9) (V m c main_v15) (V m c main_v11) (V m c main_v17)
    (V m c main_v18) (V m c main_v20) (V m c main_v21) (V m c main_v24) (V m c main_v27) (V m c main_v28) (V m c main_v30)
    (V m c main_v31) (V m c main_v34) (V m c main_v35) where
  phi0_ul k j := by
    rw [V_main_v13]
    exact (above_upper _ _ _ _ _ _).trans (beside_left _ _ _ _ _ _)
  phi0_ur k j := by
    rw [V_main_v13]
    exact ((above_upper _ _ _ _ _ _).trans (beside_right _ _ _ _ _ _)).trans Block.zero_bits
  phi0_ll k j := by
    rw [V_main_v13]
    exact ((above_lower _ _ _ _ _ _).trans (beside_left _ _ _ _ _ _)).trans Block.zero_bits
  phi0_lr k j := by
    rw [V_main_v13]
    exact (above_lower _ _ _ _ _ _).trans (beside_right _ _ _ _ _ _)
  phi0b_l j := by
    rw [V_main_v9]
    exact twice_left _ j
  phi0b_r j := by
    rw [V_main_v9]
    exact twice_right _ j
  phi1_ul k j := by
    rw [V_main_v15]
    exact (above_upper _ _ _ _ _ _).trans (beside_left _ _ _ _ _ _)
  phi1_ur k j := by
    rw [V_main_v15]
    exact ((above_upper _ _ _ _ _ _).trans (beside_right _ _ _ _ _ _)).trans Block.zero_bits
  phi1_ll k j := by
    rw [V_main_v15]
    exact ((above_lower _ _ _ _ _ _).trans (beside_left _ _ _ _ _ _)).trans Block.zero_bits
  phi1_lr k j := by
    rw [V_main_v15]
    exact (above_lower _ _ _ _ _ _).trans (beside_right _ _ _ _ _ _)
  phi1b_l j := by
    rw [V_main_v11]
    exact twice_left _ j
  phi1b_r j := by
    rw [V_main_v11]
    exact twice_right _ j
  om0 k j := by
    rw [V_main_v17]
    rfl
  om0b j := by
    rw [V_main_v18]
    exact row_cast _ _ j
  om1 k j := by
    rw [V_main_v20]
    rfl
  om1b j := by
    rw [V_main_v21]
    exact row_cast _ _ j
  rho0_means k j := by
    rw [V_main_v24]
    refine extractStridedSlice_apply _ _ _ _ (ix2 (⟨k.val, by omega⟩ : Fin 160) j) fun d => ?_
    match d with
    | ⟨0, _⟩ => exact (Nat.zero_add _).symm
    | ⟨1, _⟩ => exact (Nat.zero_add _).symm
  rho0_info k j := by
    rw [V_main_v27]
    refine extractStridedSlice_apply _ _ _ _ (ix2 (⟨128 + k.val, by omega⟩ : Fin 160) j) fun d => ?_
    match d with
    | ⟨0, _⟩ => rfl
    | ⟨1, _⟩ => exact (Nat.zero_add _).symm
  rho0b j := by
    rw [V_main_v28]
    exact row_cast _ _ j
  rho1 k j := by
    rw [V_main_v30]
    rfl
  rho1b j := by
    rw [V_main_v31]
    exact row_cast _ _ j
  rho2 k := by
    rw [V_main_v34]
    exact column_cast _ _ k
  rho2b := by
    rw [V_main_v35]
    exact row_cast _ _ 0

end Cert.PreparedWeights

end
-- ==== Proof.KernelValue.lean ====
/- What the kernel's result array holds after the run: at every set, the score of that set. -/
module

public import proofs.«01_k».proof.Proof.PreparedWeights
public import proofs.«01_k».proof.Proof.Gen.KernelIdeal.Value

@[expose] public section

set_option maxRecDepth 16384

noncomputable section

namespace Cert.KernelValue

open Idealize.ShloMosaic Idealize.ShloMosaic.TcCoe
open Cert.KernelIdeal Cert.KernelIdeal.Gen Idealize.ShloMosaic.ValueIdx
open Cert.Score Cert.Block Cert.BlockScore Cert.PreparedWeights

variable (m : (ℓ : Loc nD τ sig) → Buf (Elt Ideal) ℓ) (c : Dev nD)

/-- Point `t` loads block `t` of the reference reads. -/
theorem index_0 : ∀ t : Fin cfg0.N, win0_0.index t 0 = t.val ∧ win0_0.index t 1 = 0 :=
  (by decide +kernel : ∀ t : Fin grid0.N, win0_0.index t 0 = t.val ∧ win0_0.index t 1 = 0)

/-- Point `t` loads block `t` of the alternate reads. -/
theorem index_1 : ∀ t : Fin cfg0.N, win0_1.index t 0 = t.val ∧ win0_1.index t 1 = 0 :=
  (by decide +kernel : ∀ t : Fin grid0.N, win0_1.index t 0 = t.val ∧ win0_1.index t 1 = 0)

/-- Point `t` loads block `t` of the info rows. -/
theorem index_2 : ∀ t : Fin cfg0.N, win0_2.index t 0 = t.val ∧ win0_2.index t 1 = 0 :=
  (by decide +kernel : ∀ t : Fin grid0.N, win0_2.index t 0 = t.val ∧ win0_2.index t 1 = 0)

/-- Point `t` writes block `t` of the result. -/
theorem index_18 : ∀ t : Fin cfg0.N, win0_18.index t 0 = t.val :=
  (by decide +kernel : ∀ t : Fin grid0.N, win0_18.index t 0 = t.val)

/-- Row `r` of block `t` of the reference reads is row `16384 t + r` of the argument. -/
theorem block_0 (t : Fin cfg0.N) (r : Fin 16384) (k : Fin 24) (R : Fin 262144) (hR : R.val = 16384 * t.val + r.val) :
    iblk m c 0 t (ix2 r k) = m ((c : Thread nD τ).loc main_arg0) (ix2 R k) := by
  rw [← V_main_arg0 m c]
  show V m c main_arg0 ((win0_0.rect t).emb (ix2 r k)) = _
  refine congrArg (V m c main_arg0) (funext fun a => Fin.ext ?_)
  match a with
  | ⟨0, _⟩ => show win0_0.index t 0 * 16384 + 1 * r.val = R.val; rw [(index_0 t).1, hR]; omega
  | ⟨1, _⟩ => show win0_0.index t 1 * 24 + 1 * k.val = k.val; rw [(index_0 t).2]; omega

/-- Row `r` of block `t` of the alternate reads is row `16384 t + r` of the argument. -/
theorem block_1 (t : Fin cfg0.N) (r : Fin 16384) (k : Fin 24) (R : Fin 262144) (hR : R.val = 16384 * t.val + r.val) :
    iblk m c 1 t (ix2 r k) = m ((c : Thread nD τ).loc main_arg1) (ix2 R k) := by
  rw [← V_main_arg1 m c]
  show V m c main_arg1 ((win0_1.rect t).emb (ix2 r k)) = _
  refine congrArg (V m c main_arg1) (funext fun a => Fin.ext ?_)
  match a with
  | ⟨0, _⟩ => show win0_1.index t 0 * 16384 + 1 * r.val = R.val; rw [(index_1 t).1, hR]; omega
  | ⟨1, _⟩ => show win0_1.index t 1 * 24 + 1 * k.val = k.val; rw [(index_1 t).2]; omega

/-- Row `r` of block `t` of the info rows is row `1024 t + r` of the argument. -/
theorem block_2 (t : Fin cfg0.N) (r : Fin 1024) (k : Fin 10) (R : Fin 16384) (hR : R.val = 1024 * t.val + r.val) :
    iblk m c 2 t (ix2 r k) = m ((c : Thread nD τ).loc main_arg2) (ix2 R k) := by
  rw [← V_main_arg2 m c]
  show V m c main_arg2 ((win0_2.rect t).emb (ix2 r k)) = _
  refine congrArg (V m c main_arg2) (funext fun a => Fin.ext ?_)
  match a with
  | ⟨0, _⟩ => show win0_2.index t 0 * 1024 + 1 * r.val = R.val; rw [(index_2 t).1, hR]; omega
  | ⟨1, _⟩ => show win0_2.index t 1 * 10 + 1 * k.val = k.val; rw [(index_2 t).2]; omega

/-- Every point loads the whole array of the read network's first layer. -/
theorem block_3 (t : Fin cfg0.N) : iblk m c 3 t = V m c main_v13 := by
  have h : ∀ t : Fin cfg0.N, win0_3.index t 0 = 0 ∧ win0_3.index t 1 = 0 :=
    (by decide +kernel : ∀ t : Fin grid0.N, win0_3.index t 0 = 0 ∧ win0_3.index t 1 = 0)
  funext i
  show V m c main_v13 ((win0_3.rect t).emb i) = _
  refine congrArg (V m c main_v13) (funext fun a => Fin.ext ?_)
  match a with
  | ⟨0, _⟩ => show win0_3.index t 0 * 48 + 1 * (i 0).val = (i 0).val; rw [(h t).1]; omega
  | ⟨1, _⟩ => show win0_3.index t 1 * 128 + 1 * (i 1).val = (i 1).val; rw [(h t).2]; omega

/-- Every point loads the whole array of its bias. -/
theorem block_4 (t : Fin cfg0.N) : iblk m c 4 t = V m c main_v9 := by
  have h : ∀ t : Fin cfg0.N, win0_4.index t 0 = 0 ∧ win0_4.index t 1 = 0 :=
    (by decide +kernel : ∀ t : Fin grid0.N, win0_4.index t 0 = 0 ∧ win0_4.index t 1 = 0)
  funext i
  show V m c main_v9 ((win0_4.rect t).emb i) = _
  refine congrArg (V m c main_v9) (funext fun a => Fin.ext ?_)
  match a with
  | ⟨0, _⟩ => show win0_4.index t 0 * 1 + 1 * (i 0).val = (i 0).val; rw [(h t).1]; omega
  | ⟨1, _⟩ => show win0_4.index t 1 * 128 + 1 * (i 1).val = (i 1).val; rw [(h t).2]; omega

/-- Every point loads the whole array of the read network's second layer. -/
theorem block_5 (t : Fin cfg0.N) : iblk m c 5 t = V m c main_v15 := by
  have h : ∀ t : Fin cfg0.N, win0_5.index t 0 = 0 ∧ win0_5.index t 1 = 0 :=
    (by decide +kernel : ∀ t : Fin grid0.N, win0_5.index t 0 = 0 ∧ win0_5.index t 1 = 0)
  funext i
  show V m c main_v15 ((win0_5.rect t).emb i) = _
  refine congrArg (V m c main_v15) (funext fun a => Fin.ext ?_)
  match a with
  | ⟨0, _⟩ => show win0_5.index t 0 * 128 + 1 * (i 0).val = (i 0).val; rw [(h t).1]; omega
  | ⟨1, _⟩ => show win0_5.index t 1 * 128 + 1 * (i 1).val = (i 1).val; rw [(h t).2]; omega

/-- Every point loads the whole array of its bias. -/
theorem block_6 (t : Fin cfg0.N) : iblk m c 6 t = V m c main_v11 := by
  have h : ∀ t : Fin cfg0.N, win0_6.index t 0 = 0 ∧ win0_6.index t 1 = 0 :=
    (by decide +kernel : ∀ t : Fin grid0.N, win0_6.index t 0 = 0 ∧ win0_6.index t 1 = 0)
  funext i
  show V m c main_v11 ((win0_6.rect t).emb i) = _
  refine congrArg (V m c main_v11) (funext fun a => Fin.ext ?_)
  match a with
  | ⟨0, _⟩ => show win0_6.index t 0 * 1 + 1 * (i 0).val = (i 0).val; rw [(h t).1]; omega
  | ⟨1, _⟩ => show win0_6.index t 1 * 128 + 1 * (i 1).val = (i 1).val; rw [(h t).2]; omega

/-- Every point loads the whole array of the info network's first layer. -/
theorem block_7 (t : Fin cfg0.N) : iblk m c 7 t = V m c main_v17 := by
  have h : ∀ t : Fin cfg0.N, win0_7.index t 0 = 0 ∧ win0_7.index t 1 = 0 :=
    (by decide +kernel : ∀ t : Fin grid0.N, win0_7.index t 0 = 0 ∧ win0_7.index t 1 = 0)
  funext i
  show V m c main_v17 ((win0_7.rect t).emb i) = _
  refine congrArg (V m c main_v17) (funext fun a => Fin.ext ?_)
  match a with
  | ⟨0, _⟩ => show win0_7.index t 0 * 10 + 1 * (i 0).val = (i 0).val; rw [(h t).1]; omega
  | ⟨1, _⟩ => show win0_7.index t 1 * 32 + 1 * (i 1).val = (i 1).val; rw [(h t).2]; omega

/-- Every point loads the whole array of its bias. -/
theorem block_8 (t : Fin cfg0.N) : iblk m c 8 t = V m c main_v18 := by
  have h : ∀ t : Fin cfg0.N, win0_8.index t 0 = 0 ∧ win0_8.index t 1 = 0 :=
    (by decide +kernel : ∀ t : Fin grid0.N, win0_8.index t 0 = 0 ∧ win0_8.index t 1 = 0)
  funext i
  show V m c main_v18 ((win0_8.rect t).emb i) = _
  refine congrArg (V m c main_v18) (funext fun a => Fin.ext ?_)
  match a with
  | ⟨0, _⟩ => show win0_8.index t 0 * 1 + 1 * (i 0).val = (i 0).val; rw [(h t).1]; omega
  | ⟨1, _⟩ => show win0_8.index t 1 * 32 + 1 * (i 1).val = (i 1).val; rw [(h t).2]; omega

/-- Every point loads the whole array of the info network's second layer. -/
theorem block_9 (t : Fin cfg0.N) : iblk m c 9 t = V m c main_v20 := by
  have h : ∀ t : Fin cfg0.N, win0_9.index t 0 = 0 ∧ win0_9.index t 1 = 0 :=
    (by decide +kernel : ∀ t : Fin grid0.N, win0_9.index t 0 = 0 ∧ win0_9.index t 1 = 0)
  funext i
  show V m c main_v20 ((win0_9.rect t).emb i) = _
  refine congrArg (V m c main_v20) (funext fun a => Fin.ext ?_)
  match a with
  | ⟨0, _⟩ => show win0_9.index t 0 * 32 + 1 * (i 0).val = (i 0).val; rw [(h t).1]; omega
  | ⟨1, _⟩ => show win0_9.index t 1 * 32 + 1 * (i 1).val = (i 1).val; rw [(h t).2]; omega

/-- Every point loads the whole array of its bias. -/
theorem block_10 (t : Fin cfg0.N) : iblk m c 10 t = V m c main_v21 := by
  have h : ∀ t : Fin cfg0.N, win0_10.index t 0 = 0 ∧ win0_10.index t 1 = 0 :=
    (by decide +kernel : ∀ t : Fin grid0.N, win0_10.index t 0 = 0 ∧ win0_10.index t 1 = 0)
  funext i
  show V m c main_v21 ((win0_10.rect t).emb i) = _
  refine congrArg (V m c main_v21) (funext fun a => Fin.ext ?_)
  match a with
  | ⟨0, _⟩ => show win0_10.index t 0 * 1 + 1 * (i 0).val = (i 0).val; rw [(h t).1]; omega
  | ⟨1, _⟩ => show win0_10.index t 1 * 32 + 1 * (i 1).val = (i 1).val; rw [(h t).2]; omega

/-- Every point loads the whole array of the first 128 rows of the aggregation network's first layer. -/
theorem block_11 (t : Fin cfg0.N) : iblk m c 11 t = V m c main_v24 := by
  have h : ∀ t : Fin cfg0.N, win0_11.index t 0 = 0 ∧ win0_11.index t 1 = 0 :=
    (by decide +kernel : ∀ t : Fin grid0.N, win0_11.index t 0 = 0 ∧ win0_11.index t 1 = 0)
  funext i
  show V m c main_v24 ((win0_11.rect t).emb i) = _
  refine congrArg (V m c main_v24) (funext fun a => Fin.ext ?_)
  match a with
  | ⟨0, _⟩ => show win0_11.index t 0 * 128 + 1 * (i 0).val = (i 0).val; rw [(h t).1]; omega
  | ⟨1, _⟩ => show win0_11.index t 1 * 64 + 1 * (i 1).val = (i 1).val; rw [(h t).2]; omega

/-- Every point loads the whole array of its last 32 rows. -/
theorem block_12 (t : Fin cfg0.N) : iblk m c 12 t = V m c main_v27 := by
  have h : ∀ t : Fin cfg0.N, win0_12.index t 0 = 0 ∧ win0_12.index t 1 = 0 :=
    (by decide +kernel : ∀ t : Fin grid0.N, win0_12.index t 0 = 0 ∧ win0_12.index t 1 = 0)
  funext i
  show V m c main_v27 ((win0_12.rect t).emb i) = _
  refine congrArg (V m c main_v27) (funext fun a => Fin.ext ?_)
  match a with
  | ⟨0, _⟩ => show win0_12.index t 0 * 32 + 1 * (i 0).val = (i 0).val; rw [(h t).1]; omega
  | ⟨1, _⟩ => show win0_12.index t 1 * 64 + 1 * (i 1).val = (i 1).val; rw [(h t).2]; omega

/-- Every point loads the whole array of its bias. -/
theorem block_13 (t : Fin cfg0.N) : iblk m c 13 t = V m c main_v28 := by
  have h : ∀ t : Fin cfg0.N, win0_13.index t 0 = 0 ∧ win0_13.index t 1 = 0 :=
    (by decide +kernel : ∀ t : Fin grid0.N, win0_13.index t 0 = 0 ∧ win0_13.index t 1 = 0)
  funext i
  show V m c main_v28 ((win0_13.rect t).emb i) = _
  refine congrArg (V m c main_v28) (funext fun a => Fin.ext ?_)
  match a with
  | ⟨0, _⟩ => show win0_13.index t 0 * 1 + 1 * (i 0).val = (i 0).val; rw [(h t).1]; omega
  | ⟨1, _⟩ => show win0_13.index t 1 * 64 + 1 * (i 1).val = (i 1).val; rw [(h t).2]; omega

/-- Every point loads the whole array of the aggregation network's second layer. -/
theorem block_14 (t : Fin cfg0.N) : iblk m c 14 t = V m c main_v30 := by
  have h : ∀ t : Fin cfg0.N, win0_14.index t 0 = 0 ∧ win0_14.index t 1 = 0 :=
    (by decide +kernel : ∀ t : Fin grid0.N, win0_14.index t 0 = 0 ∧ win0_14.index t 1 = 0)
  funext i
  show V m c main_v30 ((win0_14.rect t).emb i) = _
  refine congrArg (V m c main_v30) (funext fun a => Fin.ext ?_)
  match a with
  | ⟨0, _⟩ => show win0_14.index t 0 * 64 + 1 * (i 0).val = (i 0).val; rw [(h t).1]; omega
  | ⟨1, _⟩ => show win0_14.index t 1 * 32 + 1 * (i 1).val = (i 1).val; rw [(h t).2]; omega

/-- Every point loads the whole array of its bias. -/
theorem block_15 (t : Fin cfg0.N) : iblk m c 15 t = V m c main_v31 := by
  have h : ∀ t : Fin cfg0.N, win0_15.index t 0 = 0 ∧ win0_15.index t 1 = 0 :=
    (by decide +kernel : ∀ t : Fin grid0.N, win0_15.index t 0 = 0 ∧ win0_15.index t 1 = 0)
  funext i
  show V m c main_v31 ((win0_15.rect t).emb i) = _
  refine congrArg (V m c main_v31) (funext fun a => Fin.ext ?_)
  match a with
  | ⟨0, _⟩ => show win0_15.index t 0 * 1 + 1 * (i 0).val = (i 0).val; rw [(h t).1]; omega
  | ⟨1, _⟩ => show win0_15.index t 1 * 32 + 1 * (i 1).val = (i 1).val; rw [(h t).2]; omega

/-- Every point loads the whole array of the aggregation network's last layer. -/
theorem block_16 (t : Fin cfg0.N) : iblk m c 16 t = V m c main_v34 := by
  have h : ∀ t : Fin cfg0.N, win0_16.index t 0 = 0 ∧ win0_16.index t 1 = 0 :=
    (by decide +kernel : ∀ t : Fin grid0.N, win0_16.index t 0 = 0 ∧ win0_16.index t 1 = 0)
  funext i
  show V m c main_v34 ((win0_16.rect t).emb i) = _
  refine congrArg (V m c main_v34) (funext fun a => Fin.ext ?_)
  match a with
  | ⟨0, _⟩ => show win0_16.index t 0 * 1 + 1 * (i 0).val = (i 0).val; rw [(h t).1]; omega
  | ⟨1, _⟩ => show win0_16.index t 1 * 32 + 1 * (i 1).val = (i 1).val; rw [(h t).2]; omega

/-- Every point loads the whole array of its bias. -/
theorem block_17 (t : Fin cfg0.N) : iblk m c 17 t = V m c main_v35 := by
  have h : ∀ t : Fin cfg0.N, win0_17.index t 0 = 0 ∧ win0_17.index t 1 = 0 :=
    (by decide +kernel : ∀ t : Fin grid0.N, win0_17.index t 0 = 0 ∧ win0_17.index t 1 = 0)
  funext i
  show V m c main_v35 ((win0_17.rect t).emb i) = _
  refine congrArg (V m c main_v35) (funext fun a => Fin.ext ?_)
  match a with
  | ⟨0, _⟩ => show win0_17.index t 0 * 1 + 1 * (i 0).val = (i 0).val; rw [(h t).1]; omega
  | ⟨1, _⟩ => show win0_17.index t 1 * 1 + 1 * (i 1).val = (i 1).val; rw [(h t).2]; omega

/-- The rows of the argument reads that belong to set `s`. -/
abbrev setRow (s : Fin 16384) (k : Fin 16) : Fin 262144 := ⟨16 * s.val + k.val, by omega⟩

/-- The result array at set `s`: the score of that set, of the arguments. -/
theorem array_at (s : Fin 16384) :
    ((dats m 0 c).arrAt 18 cfg0.N (ix1 s) : EReal)
      = score (argWeights m c) (fun k => rowOf (m ((c : Thread nD τ).loc main_arg0)) (setRow s k))
          (fun k => rowOf (m ((c : Thread nD τ).loc main_arg1)) (setRow s k)) (rowOf (m ((c : Thread nD τ).loc main_arg2)) s) := by
  have hs := s.isLt
  have hN : cfg0.N = 16 := N_0
  obtain ⟨t, ht⟩ : ∃ t : Fin cfg0.N, t.val = s.val / 1024 := ⟨⟨s.val / 1024, by omega⟩, rfl⟩
  obtain ⟨r, hr⟩ : ∃ r : Fin 1024, r.val = s.val % 1024 := ⟨⟨s.val % 1024, by omega⟩, rfl⟩
  have hb := congrFun (Value.blocks18 m c t (flush0_18 t)) (ix1 r)
  rw [Value.flushed18] at hb
  have he : (win0_18.rect t).emb (ix1 r) = ix1 s := funext fun a => Fin.ext (by
    match a with
    | ⟨0, _⟩ =>
      show win0_18.index t 0 * 1024 + 1 * r.val = s.val
      rw [index_18 t, ht, hr]; omega)
  rw [← he]
  refine hb.trans ?_
  have hw := prepared m c
  rw [← block_3 m c t, ← block_4 m c t, ← block_5 m c t, ← block_6 m c t, ← block_7 m c t, ← block_8 m c t, ← block_9 m c t, ← block_10 m c t, ← block_11 m c t, ← block_12 m c t, ← block_13 m c t, ← block_14 m c t, ← block_15 m c t, ← block_16 m c t, ← block_17 m c t] at hw
  refine (block_score hw (iblk m c 0 t) (iblk m c 1 t) (iblk m c 2 t) r).trans ?_
  have h0 : (fun k => rowOf (iblk m c 0 t) (readRow r k)) = fun k => rowOf (m ((c : Thread nD τ).loc main_arg0)) (setRow s k) :=
    funext fun k => funext fun q => block_0 m c t _ q _ (by
      show 16 * s.val + k.val = 16384 * t.val + (16 * r.val + k.val)
      rw [ht, hr]; omega)
  have h1 : (fun k => rowOf (iblk m c 1 t) (readRow r k)) = fun k => rowOf (m ((c : Thread nD τ).loc main_arg1)) (setRow s k) :=
    funext fun k => funext fun q => block_1 m c t _ q _ (by
      show 16 * s.val + k.val = 16384 * t.val + (16 * r.val + k.val)
      rw [ht, hr]; omega)
  have h2 : rowOf (iblk m c 2 t) r = rowOf (m ((c : Thread nD τ).loc main_arg2)) s :=
    funext fun q => block_2 m c t _ q _ (by rw [ht, hr]; omega)
  rw [h0, h1, h2]

end Cert.KernelValue

end
-- ==== Proof.Segments.lean ====
/- Where the reference puts its rows: with every count 16, row `t` of the stacked reads belongs to set `t / 16`. -/
module

public import proofs.«01_k».proof.Proof.Gen.ReferenceIdeal.Read
public import Idealize.ShloMosaic.Lib.Routing.Ops
public import Idealize.ShloMosaic.Lib.Routing.OpsSet
public import Idealize.ShloMosaic.Lib.Routing.OpsOne
public import Idealize.ShloMosaic.Lib.Routing.OpsPair
public import Idealize.ShloMosaic.Lib.ReduceAll
public import Idealize.ShloMosaic.Lib.Pointwise.SelectCore

@[expose] public section

set_option maxRecDepth 16384

noncomputable section

namespace Cert.Segments

open Idealize.ShloMosaic hiding ix0 ix1 ix2 ix3 eq_ix1 eq_ix2 eq_ix3
open Cert.ReferenceIdeal Cert.ReferenceIdeal.Gen Cert.ReferenceIdeal.Read Idealize.ShloMosaic.ValueIdx Idealize.ShloMosaic.Routing
  Idealize.ShloMosaic.StableHlo

/-- The counts of sixteen reads in every set. -/
abbrev counts16 : IVec S16384 32 := fun _ => 16#32

/-- Rolling the counts by one leaves them as they are: every entry is 16. -/
theorem rolled (i : S16384.Idx) : val_main_v46 (F := Ideal) counts16 i = 16#32 := by
  unfold val_main_v46
  refine concatenate_forall (P := fun v => v = 16#32) _ _ _ _ (fun p hp j => ?_) i
  rcases List.mem_cons.1 hp with rfl | hp
  · exact val_main_call3_v0_apply (F := Ideal) counts16 j
  · obtain rfl := List.mem_singleton.1 hp
    exact val_main_call3_v1_apply (F := Ideal) counts16 j

/-- The rolled counts with the first entry set to 0. -/
theorem shifted (e : Fin 16384) :
    val_main_v48 (F := Ideal) counts16 (ix1 e) = BitVec.ofNat 32 (if e.val = 0 then 0 else 16) := by
  unfold val_main_v48
  refine (scatter_one scatter_S16384_S1_S__n_0_0_0 rfl rfl _ _ _ (⟨0, by decide⟩ : Fin 16384) (by decide) ?_ e).trans ?_
  · exact (val_main_v47_apply (F := Ideal) _).trans rfl
  · by_cases h : e.val = 0
    · rw [if_pos (Fin.ext h), if_pos h]; rfl
    · rw [if_neg (fun q => h (congrArg Fin.val q)), if_neg h, rolled]

/-- The sum of the counts before set `n`, a zero first and then sixteens, is `16 n`. -/
theorem sum_shift (n : Nat) : ((List.range (n + 1)).map fun i => if i = 0 then 0 else 16).sum = 16 * n := by
  induction n with
  | zero => rfl
  | succ n ih => rw [List.range_succ, List.map_append, List.sum_append, ih]; simp; omega

/-- The first row of set `e` is row `16 e`. -/
theorem starts (e : Fin 16384) : val_main_v49 (F := Ideal) counts16 (ix1 e) = BitVec.ofNat 32 (16 * e.val) := by
  unfold val_main_v49
  rw [← sum_shift]
  exact cumsum1 (by decide) _ _ shifted _ rfl _ _ e

/-- No start is negative, so wrapping negative starts changes none. -/
theorem starts_wrapped (e : Fin 16384) : val_main_v56 (F := Ideal) counts16 (ix2 e (0 : Fin 1)) = BitVec.ofNat 32 (16 * e.val) := by
  have h : (idx_main_v56 (ix2 e (0 : Fin 1))) = ix1 e := by
    funext a
    match a with
    | ⟨0, _⟩ => rfl
  rw [val_main_v56_apply, h, val_main_v55_apply, val_main_v52_apply, val_main_v51_apply, val_main_c_7_apply, starts]
  refine wrap_of_lt _ _ ?_
  have := e.isLt
  rw [BitVec.toNat_ofNat]
  omega

/-- Update `i` of the scatter of starts lands at row `x` exactly when its start is `x`. -/
theorem lands_start (idx : IVec S16384x1 32) (i : Fin 16384) (x : Fin 262144) :
    scatter_S262144_S16384x1_S16384_n_0_0_1.resultIdx? (ix1 i) idx = some (ix1 x) ↔ (idx (ix2 i (0 : Fin 1))).toInt = (x.val : Int) := by
  refine (resultIdx?_ix1 scatter_S262144_S16384x1_S16384_n_0_0_1 (ix1 i) idx x).trans ?_
  have hs : scatter_S262144_S16384x1_S16384_n_0_0_1.siIdx (ix1 i) ⟨0, by decide⟩ = ix2 i (0 : Fin 1) := by
    funext b
    match b with
    | ⟨0, _⟩ => rfl
    | ⟨1, _⟩ => rfl
  have hst : scatter_S262144_S16384x1_S16384_n_0_0_1.start (ix1 i) idx 0 = (idx (ix2 i (0 : Fin 1))).toInt := by
    rw [← hs]; rfl
  have hw : scatter_S262144_S16384x1_S16384_n_0_0_1.window (ix1 i) 0 = 0 := rfl
  rw [hst, hw]
  omega

/-- A left fold that adds 1 at each hit counts the hits. -/
theorem foldl_hits {ι : Type} (hit : ι → Prop) [DecidablePred hit] (v : ι → BitVec 32) (hv : ∀ n, v n = 1#32) (l : List ι) (z : Nat) :
    l.foldl (fun a n => if hit n then IntOp.addi a (v n) else a) (BitVec.ofNat 32 z) = BitVec.ofNat 32 (z + l.countP fun n => decide (hit n)) := by
  induction l generalizing z with
  | nil => rfl
  | cons n l ih =>
    rw [List.foldl_cons, List.countP_cons]
    by_cases h : hit n
    · have e : IntOp.addi (BitVec.ofNat 32 z) (v n) = BitVec.ofNat 32 (z + 1) := by
        rw [hv]
        exact (BitVec.ofNat_add z 1).symm
      rw [if_pos h, e, ih, if_pos (decide_eq_true h)]
      exact congrArg _ (by omega)
    · rw [if_neg h, ih, if_neg (by simpa using h), Nat.add_zero]

/-- Ones scattered additively into zeros, `M` of them at the positions `g 0, …, g (M - 1)`: entry `x` counts the positions equal to `x`. -/
theorem scatter_ones {N M : Nat} (d : ScatterDims (shape1 N) (shape2 M 1) (shape1 M)) (x0 : IVec (shape1 N) 32) (hx0 : ∀ i, x0 i = 0#32)
    (idx : IVec (shape2 M 1) 32) (upd : IVec (shape1 M) 32) (hupd : ∀ i, upd i = 1#32) (g : Nat → Nat) (x : Fin N)
    (hl : ∀ i : Fin M, d.resultIdx? (ix1 i) idx = some (ix1 x) ↔ g i.val = x.val) :
    Host.scatter d IntOp.addi x0 idx upd (ix1 x) = BitVec.ofNat 32 (Nat.count (fun i => g i = x.val) M) := by
  rw [scatter_at, hx0]
  refine (foldl_hits _ _ (fun _ => hupd _) _ 0).trans (congrArg _ ?_)
  rw [Nat.zero_add]
  refine (congrArg (fun p => List.countP p _) (funext fun n => decide_eq_decide.2 ?_)).trans
    ((countP_finRange _ (fun i => g i = x.val)).trans (congrArg _ (numel1 M)))
  rw [symm1]
  exact hl (n.cast (numel1 M))

/-- Among the first `n` sets at most one starts at read `t`: one does exactly when 16 divides `t` and `t < 16 n`. -/
theorem count_start (t n : Nat) : Nat.count (fun i => 16 * i = t) n = if t % 16 = 0 ∧ t < 16 * n then 1 else 0 := by
  induction n with
  | zero => simp
  | succ n ih =>
    rw [Nat.count_succ, ih]
    split_ifs <;> omega

/-- The marks: 1 at the first row of each set, 0 at the others. -/
theorem marks (t : Fin 262144) : val_main_v58 (F := Ideal) counts16 (ix1 t) = BitVec.ofNat 32 (if t.val % 16 = 0 then 1 else 0) := by
  have ht := t.isLt
  have hc : (if t.val % 16 = 0 ∧ t.val < 16 * 16384 then 1 else 0) = if t.val % 16 = 0 then 1 else 0 := by
    split_ifs <;> omega
  have h := scatter_ones scatter_S262144_S16384x1_S16384_n_0_0_1 (val_main_v50 (F := Ideal)) (fun i => val_main_v50_apply (F := Ideal) i)
    (val_main_v56 (F := Ideal) counts16) (val_main_v57 (F := Ideal)) (fun i => val_main_v57_apply (F := Ideal) i) (fun i => 16 * i) t fun i => by
      have := i.isLt
      refine (lands_start _ i t).trans ?_
      rw [starts_wrapped, Predicate.toInt_ofNat_small _ (by omega)]
      omega
  rw [count_start, hc] at h
  exact h

/-- The number of multiples of 16 among `0 … n` is `n / 16 + 1`. -/
theorem sum_marks (n : Nat) : ((List.range (n + 1)).map fun i => if i % 16 = 0 then 1 else 0).sum = n / 16 + 1 := by
  induction n with
  | zero => rfl
  | succ n ih =>
    rw [List.range_succ, List.map_append, List.sum_append, ih, List.map_singleton, List.sum_singleton]
    split_ifs <;> omega

/-- The running count of marks, less one: the set of row `t`. -/
theorem segment (t : Fin 262144) : val_main_v61 (F := Ideal) counts16 (ix1 t) = BitVec.ofNat 32 (t.val / 16) := by
  have ht := t.isLt
  have h : val_main_v59 (F := Ideal) counts16 (ix1 t) = BitVec.ofNat 32 (t.val / 16 + 1) := by
    unfold val_main_v59
    rw [← sum_marks]
    exact cumsum1 (by decide) _ _ marks _ rfl _ _ t
  rw [val_main_v61_apply, val_main_v60_apply, val_main_c_10_apply, h]
  exact (Predicate.sub_one_ofNat _ (by omega) (by omega)).trans rfl

/-- The set numbers as the column of indices that the gather reads: none is negative, so none is wrapped. -/
theorem take_index (t : Fin 262144) : val_main_call6_v5 (F := Ideal) counts16 (ix2 t (0 : Fin 1)) = BitVec.ofNat 32 (t.val / 16) := by
  have h : (idx_main_call6_v5 (ix2 t (0 : Fin 1))) = ix1 t := by
    funext a
    match a with
    | ⟨0, _⟩ => rfl
  rw [val_main_call6_v5_apply, h, val_main_call6_v4_apply, val_main_call6_v1_apply, val_main_call6_v0_apply, val_main_call6_c_apply, segment]
  refine wrap_of_lt _ _ ?_
  have := t.isLt
  rw [BitVec.toNat_ofNat]
  omega

/-- Every index of the gather is within the table. -/
theorem take_inside (i : S262144.Idx) : val_main_call6_v12 (F := Ideal) counts16 i = 1#1 := by
  unfold val_main_call6_v12
  refine Host.reduce_andi_one _ _ _ _ _ rfl fun j => ?_
  obtain ⟨t, z, rfl⟩ : ∃ (t : Fin 262144) (z : Fin 1), j = ix2 t z := ⟨j 0, j 1, eq_ix2 j⟩
  obtain rfl : z = 0 := Subsingleton.elim _ _
  have ht := t.isLt
  rw [val_main_call6_v11_apply, val_main_call6_v7_apply, val_main_call6_v10_apply, take_index, val_main_call6_v6_apply,
    val_main_call6_c_2_apply, val_main_call6_v9_apply, val_main_call6_v8_apply, val_main_call6_c_1_apply, IntOp.andi_eq_one]
  constructor
  · refine (Predicate.sge_iff_toNat ?_ ?_).2 ?_ <;> simp only [BitVec.toNat_ofNat] <;> omega
  · refine (Predicate.sle_iff_toNat ?_ ?_).2 ?_ <;> simp only [BitVec.toNat_ofNat] <;> omega

/-- Row `t` is summed into set `t / 16`. -/
theorem seg_id (t : Fin 262144) : val_main_v82 (F := Ideal) counts16 (ix2 t (0 : Fin 1)) = BitVec.ofNat 32 (t.val / 16) := by
  have ht := t.isLt
  have h : (idx_main_v82 (ix2 t (0 : Fin 1))) = ix1 t := by
    funext a
    match a with
    | ⟨0, _⟩ => rfl
  rw [val_main_v82_apply, h, val_main_v62_apply, take_inside]
  refine (if_pos rfl).trans ?_
  unfold val_main_call6_v13
  exact (gather_take1 gather_S16384_S262144x1_S262144_n_0_n_n_0_1_1 rfl rfl rfl rfl _ _ t (⟨t.val / 16, by omega⟩ : Fin 16384)
    (take_index t) (by decide)).trans rfl

/-- The same for the alternate reads: their rows are numbered by the same operations. -/
theorem seg_id_alt (t : Fin 262144) : val_main_v89 (F := Ideal) counts16 (ix2 t (0 : Fin 1)) = BitVec.ofNat 32 (t.val / 16) :=
  (congrFun (show val_main_v89 (F := Ideal) counts16 = val_main_v82 (F := Ideal) counts16 from rfl) _).trans (seg_id t)

/-- Update `(t, j)` of the segment sum lands at `(s, q)` exactly when row `t`'s set is `s` and `j` is `q`. -/
theorem lands_segment (idx : IVec S262144x1 32) (t : Fin 262144) (j : Fin 64) (s : Fin 16384) (q : Fin 64) :
    scatter_S16384x64_S262144x1_S262144x64_1_0_0_1.resultIdx? (ix2 t j) idx = some (ix2 s q)
      ↔ (idx (ix2 t (0 : Fin 1))).toInt = (s.val : Int) ∧ j = q := by
  refine (resultIdx?_ix2 scatter_S16384x64_S262144x1_S262144x64_1_0_0_1 (ix2 t j) idx s q).trans ?_
  have hs : scatter_S16384x64_S262144x1_S262144x64_1_0_0_1.siIdx (ix2 t j) ⟨0, by decide⟩ = ix2 t (0 : Fin 1) := by
    funext b
    match b with
    | ⟨0, _⟩ => rfl
    | ⟨1, _⟩ => rfl
  have hst : scatter_S16384x64_S262144x1_S262144x64_1_0_0_1.start (ix2 t j) idx 0 = (idx (ix2 t (0 : Fin 1))).toInt := by
    rw [← hs]; rfl
  have hst1 : scatter_S16384x64_S262144x1_S262144x64_1_0_0_1.start (ix2 t j) idx 1 = 0 := rfl
  have hw : scatter_S16384x64_S262144x1_S262144x64_1_0_0_1.window (ix2 t j) 0 = 0 := rfl
  have hw1 : scatter_S16384x64_S262144x1_S262144x64_1_0_0_1.window (ix2 t j) 1 = j.val := rfl
  rw [hst, hw, hst1, hw1, Fin.ext_iff]
  omega

/-- Row `k` of set `s`. -/
abbrev row (s : Fin 16384) (k : Fin 16) : Fin 262144 := ⟨16 * s.val + k.val, by omega⟩

/-- Segment sums of rows whose set numbers are `t / 16`: set `s` gets the sum of its sixteen rows. -/
theorem segment_sum (idx : IVec S262144x1 32) (hidx : ∀ t : Fin 262144, idx (ix2 t (0 : Fin 1)) = BitVec.ofNat 32 (t.val / 16))
    (z : FVec Ideal S16384x64 .f32) (hz : ∀ i, z i = (0 : EReal)) (y : FVec Ideal S262144x64 .f32) (s : Fin 16384) (q : Fin 64) :
    Host.scatterAdd scatter_S16384x64_S262144x1_S262144x64_1_0_0_1 z idx y (ix2 s q)
      = (∑ k : Fin 16, y (ix2 (row s k) q) : EReal) := by
  have hl : ∀ (t : Fin 262144) (j : Fin 64), scatter_S16384x64_S262144x1_S262144x64_1_0_0_1.resultIdx? (ix2 t j) idx = some (ix2 s q)
      ↔ t.val / 16 = s.val ∧ j = q := fun t j => by
    have := t.isLt
    rw [lands_segment, hidx, Predicate.toInt_ofNat_small _ (by omega)]
    omega
  show z (ix2 s q) + ∑ u ∈ Finset.univ.filter (fun u => scatter_S16384x64_S262144x1_S262144x64_1_0_0_1.resultIdx? u idx = some (ix2 s q)), y u
    = (∑ k : Fin 16, y (ix2 (row s k) q) : EReal)
  rw [hz, zero_add]
  have hset : Finset.univ.filter (fun u => scatter_S16384x64_S262144x1_S262144x64_1_0_0_1.resultIdx? u idx = some (ix2 s q))
      = Finset.univ.image (fun k : Fin 16 => (ix2 (row s k) q : S262144x64.Idx)) := by
    ext u
    obtain ⟨t, j, rfl⟩ : ∃ (t : Fin 262144) (j : Fin 64), u = ix2 t j := ⟨u 0, u 1, eq_ix2 u⟩
    rw [Finset.mem_filter, Finset.mem_image, hl]
    constructor
    · rintro ⟨_, h, rfl⟩
      refine ⟨⟨t.val % 16, by omega⟩, Finset.mem_univ _, ?_⟩
      have : row s ⟨t.val % 16, by omega⟩ = t := Fin.ext (by show 16 * s.val + t.val % 16 = t.val; omega)
      rw [this]
    · rintro ⟨k, _, h⟩
      have h0 : row s k = t := congrFun h 0
      have h1 : q = j := congrFun h 1
      refine ⟨Finset.mem_univ _, ?_, h1.symm⟩
      rw [← h0]
      show (16 * s.val + k.val) / 16 = s.val
      omega
  rw [hset, Finset.sum_image]
  intro k _ k' _ h
  have h0 : row s k = row s k' := congrFun h 0
  have := congrArg Fin.val h0
  apply Fin.ext
  change 16 * s.val + k.val = 16 * s.val + k'.val at this
  omega

end Cert.Segments

end
-- ==== Proof.RefValue.lean ====
/- What the reference computes, at a set: the score of `Score.lean`. -/
module

public import proofs.«01_k».proof.Proof.Segments
public import proofs.«01_k».proof.Proof.Score
public import Idealize.ShloMosaic.Lib.Pipeline.Value

@[expose] public section

set_option maxRecDepth 16384

noncomputable section

namespace Cert.RefValue

open Idealize.ShloMosaic hiding ix0 ix1 ix2 ix3 eq_ix1 eq_ix2 eq_ix3
open Cert.ReferenceIdeal Cert.ReferenceIdeal.Gen Cert.ReferenceIdeal.Read Idealize.ShloMosaic.ValueIdx
open Cert.Score Cert.Segments

/-- The reference's zero. -/
theorem zero_bits : Ideal.ofBits .f32 0x00000000#32 = (0 : EReal) := by simp [Ideal.ofBits, Ideal.ieee]

/-- The reference's one. -/
theorem one_bits : Ideal.ofBits .f32 0x3F800000#32 = (1 : EReal) := by
  simp [Ideal.ofBits, Ideal.ieee]
  rw [← EReal.coe_mul]; norm_num

/-- The count, as a number. -/
theorem count_value (i : S16384.Idx) : (FloatOps.sitofp (F := Ideal) .f32 (counts16 i) : EReal) = ((16 : ℝ) : EReal) := by
  show (((16#32 : BitVec 32).toInt : ℝ) : EReal) = _
  rw [show (16#32 : BitVec 32).toInt = 16 from by decide]; norm_num

/-- The square root of the count. -/
theorem sqrt_count : Ideal.sqrt ((16 : ℝ) : EReal) = ((4 : ℝ) : EReal) := by
  rw [Ideal.sqrt_coe, if_neg (by norm_num), show (16 : ℝ) = 4 ^ 2 by norm_num, Real.sqrt_sq (by norm_num)]

variable (x0 x1 : FVec Ideal S262144x24 .f32) (x2 : FVec Ideal S16384x10 .f32)
    (x5 : FVec Ideal S24x64 .f32) (x6 : FVec Ideal S64 .f32) (x7 : FVec Ideal S64x64 .f32) (x8 : FVec Ideal S64 .f32)
    (x9 : FVec Ideal S10x32 .f32) (x10 : FVec Ideal S32 .f32) (x11 : FVec Ideal S32x32 .f32) (x12 : FVec Ideal S32 .f32)
    (x13 : FVec Ideal S160x64 .f32) (x14 : FVec Ideal S64 .f32) (x15 : FVec Ideal S64x32 .f32) (x16 : FVec Ideal S32 .f32)
    (x17 : FVec Ideal S32x1 .f32) (x18 : FVec Ideal S1 .f32)

/-- The read network's first layer. -/
theorem hidden_at (t : Fin 262144) (j : Fin 64) :
    val_main_v4 (F := Ideal) x0 x5 x6 (ix2 t j)
      = relu (layer (fun k j => x5 (ix2 k j)) (fun j => x6 (ix1 j)) (rowOf x0 t)) j := by
  rw [val_main_v4_apply, val_main_v3_apply, val_main_v0_apply, val_main_v2_apply, val_main_v1_apply, val_main_call0_v0_apply,
    val_main_call0_cst_apply, show idx_main_v1 (idx_main_v2 (ix2 t j)) = ix1 j from eq_ix1 _]
  simp only [Ideal.maximumf_def, Ideal.addf_def, Ideal.ofBits_def, zero_bits,
    show ∀ k, lidx_main_v0 (ix2 t j) k = ix2 t k from fun k => eq_ix2 _, show ∀ k, ridx_main_v0 (ix2 t j) k = ix2 k j from fun k => eq_ix2 _]
  rfl

/-- The read network's output. -/
theorem gate_at (t : Fin 262144) (j : Fin 64) :
    val_main_v14 (F := Ideal) x0 x5 x6 x7 x8 (ix2 t j)
      = gate (fun k j => x5 (ix2 k j)) (fun j => x6 (ix1 j)) (fun k j => x7 (ix2 k j)) (fun j => x8 (ix1 j)) (rowOf x0 t) j := by
  have hs : val_main_v5 (F := Ideal) x0 x5 x6 x7 (ix2 t j)
      = ∑ k, relu (layer (fun k j => x5 (ix2 k j)) (fun j => x6 (ix1 j)) (rowOf x0 t)) k * x7 (ix2 k j) := by
    rw [val_main_v5_apply]
    refine Finset.sum_congr rfl fun k _ => ?_
    rw [show lidx_main_v5 (ix2 t j) k = ix2 t k from eq_ix2 _, show ridx_main_v5 (ix2 t j) k = ix2 k j from eq_ix2 _, hidden_at]
  rw [val_main_v14_apply, val_main_v12_apply, val_main_v10_apply, val_main_v9_apply, val_main_v8_apply, hs,
    val_main_v7_apply, val_main_v6_apply, val_main_v13_apply, val_main_v11_apply, val_main_cst_apply, val_main_cst_0_apply,
    show idx_main_v6 (idx_main_v7 (ix2 t j)) = ix1 j from eq_ix1 _]
  simp only [Ideal.hostDivf_def, Ideal.addf_def, Ideal.hostUnary_exp_def, Ideal.hostNegf_def, Ideal.negf_def, Ideal.ofBits_def, one_bits]
  rfl

/-- The mean of the read network over a set's sixteen reference reads. -/
theorem mean_ref (W : Weights) (hW : W = weights x5 x6 x7 x8 x9 x10 x11 x12 x13 x14 x15 x16 x17 x18) (s : Fin 16384) (j : Fin 64) :
    val_main_v87 (F := Ideal) x0 counts16 x5 x6 x7 x8 (ix2 s j) = mean W (fun k => rowOf x0 (row s k)) j := by
  subst hW
  rw [val_main_v87_apply, val_main_v86_apply, val_main_v85_apply, val_main_v84_apply]
  unfold val_main_v83
  rw [segment_sum _ seg_id _ (fun i => by
    rw [val_main_v81_apply, val_main_cst_18_apply]; simp only [Ideal.ofBits_def, zero_bits])]
  simp only [gate_at, Ideal.hostDivf_def]
  rw [count_value]
  rw [Ideal.div_coe (by norm_num)]
  rfl

/-- The same over its alternate reads. -/
theorem mean_alt (W : Weights) (hW : W = weights x5 x6 x7 x8 x9 x10 x11 x12 x13 x14 x15 x16 x17 x18) (s : Fin 16384) (j : Fin 64) :
    val_main_v94 (F := Ideal) x1 counts16 x5 x6 x7 x8 (ix2 s j) = mean W (fun k => rowOf x1 (row s k)) j := by
  subst hW
  have h29 : val_main_v29 (F := Ideal) x1 x5 x6 x7 x8 = val_main_v14 (F := Ideal) x1 x5 x6 x7 x8 := rfl
  rw [val_main_v94_apply, val_main_v93_apply, val_main_v92_apply, val_main_v91_apply]
  unfold val_main_v90
  rw [segment_sum _ seg_id_alt _ (fun i => by
    rw [val_main_v88_apply, val_main_cst_19_apply]; simp only [Ideal.ofBits_def, zero_bits]), h29]
  simp only [gate_at, Ideal.hostDivf_def]
  rw [count_value]
  rw [Ideal.div_coe (by norm_num)]
  rfl

/-- The info network's first layer. -/
theorem omega_hidden (s : Fin 16384) (j : Fin 32) :
    val_main_v34 (F := Ideal) x2 x9 x10 (ix2 s j)
      = relu (layer (fun k j => x9 (ix2 k j)) (fun j => x10 (ix1 j)) (rowOf x2 s)) j := by
  rw [val_main_v34_apply, val_main_v33_apply, val_main_v30_apply, val_main_v32_apply, val_main_v31_apply, val_main_call2_v0_apply,
    val_main_call2_cst_apply, show idx_main_v31 (idx_main_v32 (ix2 s j)) = ix1 j from eq_ix1 _]
  simp only [Ideal.maximumf_def, Ideal.addf_def, Ideal.ofBits_def, zero_bits,
    show ∀ k, lidx_main_v30 (ix2 s j) k = ix2 s k from fun k => eq_ix2 _, show ∀ k, ridx_main_v30 (ix2 s j) k = ix2 k j from fun k => eq_ix2 _]
  rfl

/-- The info network's output. -/
theorem omega_at (W : Weights) (hW : W = weights x5 x6 x7 x8 x9 x10 x11 x12 x13 x14 x15 x16 x17 x18) (s : Fin 16384) (j : Fin 32) :
    val_main_v44 (F := Ideal) x2 x9 x10 x11 x12 (ix2 s j) = omega W (rowOf x2 s) j := by
  subst hW
  have hs : val_main_v35 (F := Ideal) x2 x9 x10 x11 (ix2 s j)
      = ∑ k, relu (layer (fun k j => x9 (ix2 k j)) (fun j => x10 (ix1 j)) (rowOf x2 s)) k * x11 (ix2 k j) := by
    rw [val_main_v35_apply]
    refine Finset.sum_congr rfl fun k _ => ?_
    rw [show lidx_main_v35 (ix2 s j) k = ix2 s k from eq_ix2 _, show ridx_main_v35 (ix2 s j) k = ix2 k j from eq_ix2 _, omega_hidden]
  rw [val_main_v44_apply, val_main_v42_apply, val_main_v40_apply, val_main_v39_apply, val_main_v38_apply, hs,
    val_main_v37_apply, val_main_v36_apply, val_main_v43_apply, val_main_v41_apply, val_main_cst_3_apply, val_main_cst_4_apply,
    show idx_main_v36 (idx_main_v37 (ix2 s j)) = ix1 j from eq_ix1 _]
  simp only [Ideal.hostDivf_def, Ideal.addf_def, Ideal.hostUnary_exp_def, Ideal.hostNegf_def, Ideal.negf_def, Ideal.ofBits_def, one_bits]
  rfl

/-- The joined features at a lane below 64: the mean over the reference reads. -/
theorem joined_ref (s : Fin 16384) (k : Fin 64) :
    val_main_v95 (F := Ideal) x0 x1 x2 counts16 counts16 x5 x6 x7 x8 x9 x10 x11 x12 (ix2 s (⟨k.val, by omega⟩ : Fin 160))
      = val_main_v87 (F := Ideal) x0 counts16 x5 x6 x7 x8 (ix2 s k) := by
  unfold val_main_v95
  refine concatenate_apply_piece (t := S16384x160) 1 [⟨S16384x64, _⟩, ⟨S16384x64, _⟩, ⟨S16384x32, _⟩] _ _ 0 (show 0 < 3 by decide) S16384x64 _ rfl rfl 0 rfl (ix2 s k) ?_ ?_
  · intro b hb; match b with
    | ⟨0, _⟩ => rfl
    | ⟨1, _⟩ => exact absurd rfl hb
  · exact Nat.zero_add _

/-- The joined features at a lane from 64 to 127: the mean over the alternate reads. -/
theorem joined_alt (s : Fin 16384) (k : Fin 64) :
    val_main_v95 (F := Ideal) x0 x1 x2 counts16 counts16 x5 x6 x7 x8 x9 x10 x11 x12 (ix2 s (⟨64 + k.val, by omega⟩ : Fin 160))
      = val_main_v94 (F := Ideal) x1 counts16 x5 x6 x7 x8 (ix2 s k) := by
  unfold val_main_v95
  refine concatenate_apply_piece (t := S16384x160) 1 [⟨S16384x64, _⟩, ⟨S16384x64, _⟩, ⟨S16384x32, _⟩] _ _ 1 (show 1 < 3 by decide) S16384x64 _ rfl rfl 64 rfl (ix2 s k) ?_ rfl
  intro b hb; match b with
    | ⟨0, _⟩ => rfl
    | ⟨1, _⟩ => exact absurd rfl hb

/-- The joined features at a lane from 128 on: the info network's output. -/
theorem joined_info (s : Fin 16384) (k : Fin 32) :
    val_main_v95 (F := Ideal) x0 x1 x2 counts16 counts16 x5 x6 x7 x8 x9 x10 x11 x12 (ix2 s (⟨128 + k.val, by omega⟩ : Fin 160))
      = val_main_v44 (F := Ideal) x2 x9 x10 x11 x12 (ix2 s k) := by
  unfold val_main_v95
  refine concatenate_apply_piece (t := S16384x160) 1 [⟨S16384x64, _⟩, ⟨S16384x64, _⟩, ⟨S16384x32, _⟩] _ _ 2 (show 2 < 3 by decide) S16384x32 _ rfl rfl 128 rfl (ix2 s k) ?_ rfl
  intro b hb; match b with
    | ⟨0, _⟩ => rfl
    | ⟨1, _⟩ => exact absurd rfl hb

/-- The aggregation network's first layer, its positive part taken. -/
theorem first_at (W : Weights) (hW : W = weights x5 x6 x7 x8 x9 x10 x11 x12 x13 x14 x15 x16 x17 x18) (s : Fin 16384) (j : Fin 64) :
    val_main_v100 (F := Ideal) x0 x1 x2 counts16 counts16 x5 x6 x7 x8 x9 x10 x11 x12 x13 x14 (ix2 s j)
      = relu (first W (mean W fun k => rowOf x0 (row s k)) (mean W fun k => rowOf x1 (row s k)) (omega W (rowOf x2 s))) j := by
  have h0 : ∀ (k : Fin 160) (q : Fin 64), x13 (ix2 k q) = W.rho0 k q := fun k q => by rw [hW]; rfl
  have hb : x14 (ix1 j) = W.rho0b j := by rw [hW]; rfl
  rw [val_main_v100_apply, val_main_v99_apply, val_main_v96_apply, val_main_v98_apply, val_main_v97_apply, val_main_call11_v0_apply,
    val_main_call11_cst_apply, show idx_main_v97 (idx_main_v98 (ix2 s j)) = ix1 j from eq_ix1 _, hb]
  simp only [Ideal.maximumf_def, Ideal.addf_def, Ideal.ofBits_def, zero_bits,
    show ∀ k, lidx_main_v96 (ix2 s j) k = ix2 s k from fun k => eq_ix2 _, show ∀ k, ridx_main_v96 (ix2 s j) k = ix2 k j from fun k => eq_ix2 _]
  rw [sum_160]
  simp only [joined_ref, joined_alt, joined_info, h0,
    mean_ref x0 x5 x6 x7 x8 x9 x10 x11 x12 x13 x14 x15 x16 x17 x18 W hW, mean_alt x1 x5 x6 x7 x8 x9 x10 x11 x12 x13 x14 x15 x16 x17 x18 W hW,
    omega_at x2 x5 x6 x7 x8 x9 x10 x11 x12 x13 x14 x15 x16 x17 x18 W hW]
  rfl

/-- The aggregation network's second layer, its positive part taken. -/
theorem second_at (W : Weights) (hW : W = weights x5 x6 x7 x8 x9 x10 x11 x12 x13 x14 x15 x16 x17 x18) (s : Fin 16384) (j : Fin 32) :
    val_main_v105 (F := Ideal) x0 x1 x2 counts16 counts16 x5 x6 x7 x8 x9 x10 x11 x12 x13 x14 x15 x16 (ix2 s j)
      = relu (layer W.rho1 W.rho1b (relu (first W (mean W fun k => rowOf x0 (row s k)) (mean W fun k => rowOf x1 (row s k))
          (omega W (rowOf x2 s))))) j := by
  have h1 : ∀ (k : Fin 64) (q : Fin 32), x15 (ix2 k q) = W.rho1 k q := fun k q => by rw [hW]; rfl
  have hb : x16 (ix1 j) = W.rho1b j := by rw [hW]; rfl
  rw [val_main_v105_apply, val_main_v104_apply, val_main_v101_apply, val_main_v103_apply, val_main_v102_apply, val_main_call12_v0_apply,
    val_main_call12_cst_apply, show idx_main_v102 (idx_main_v103 (ix2 s j)) = ix1 j from eq_ix1 _, hb]
  simp only [Ideal.maximumf_def, Ideal.addf_def, Ideal.ofBits_def, zero_bits, h1,
    show ∀ k, lidx_main_v101 (ix2 s j) k = ix2 s k from fun k => eq_ix2 _, show ∀ k, ridx_main_v101 (ix2 s j) k = ix2 k j from fun k => eq_ix2 _,
    first_at x0 x1 x2 x5 x6 x7 x8 x9 x10 x11 x12 x13 x14 x15 x16 x17 x18 W hW]
  rfl

/-- The reference's result at set `s` is the score of that set. -/
theorem result_at (W : Weights) (hW : W = weights x5 x6 x7 x8 x9 x10 x11 x12 x13 x14 x15 x16 x17 x18) (s : Fin 16384) :
    val_main_v114 (F := Ideal) x0 x1 x2 counts16 counts16 x5 x6 x7 x8 x9 x10 x11 x12 x13 x14 x15 x16 x17 x18 (ix1 s)
      = score W (fun k => rowOf x0 (row s k)) (fun k => rowOf x1 (row s k)) (rowOf x2 s) := by
  have h2 : ∀ k : Fin 32, x17 (ix2 k 0) = W.rho2 k := fun k => by rw [hW]; rfl
  have hi : idx_main_v114 (ix1 s) = ix2 s 0 := by
    funext a; match a with
    | ⟨0, _⟩ => exact Fin.ext (Nat.div_one _)
    | ⟨1, _⟩ => rfl
  have hb : x18 (ix1 0) = W.rho2b := by rw [hW]; rfl
  rw [val_main_v114_apply, hi, val_main_v113_apply, val_main_v109_apply,
    val_main_v106_apply, val_main_v108_apply, val_main_v107_apply, val_main_v112_apply, val_main_v111_apply, val_main_v110_apply,
    show idx_main_v107 (idx_main_v108 (ix2 s 0)) = ix1 0 from eq_ix1 _, hb]
  simp only [Ideal.mulf_def, Ideal.addf_def, Ideal.hostUnary_sqrt_def, count_value, sqrt_count, h2,
    show ∀ k, lidx_main_v106 (ix2 s 0) k = ix2 s k from fun k => eq_ix2 _, show ∀ k, ridx_main_v106 (ix2 s 0) k = ix2 k 0 from fun k => eq_ix2 _,
    second_at x0 x1 x2 x5 x6 x7 x8 x9 x10 x11 x12 x13 x14 x15 x16 x17 x18 W hW]
  rfl

end Cert.RefValue

end
-- ==== Proof.Claims.lean ====
/- The claims: the counts the precondition states, the frames, and the kernel's result equal to the reference's. -/
module

public import proofs.«01_k».proof.Defs
public import proofs.«01_k».proof.Proof.KernelValue
public import proofs.«01_k».proof.Proof.RefValue
public import proofs.«01_k».proof.Proof.Gen.Kernel.Frame
public import proofs.«01_k».proof.Proof.Gen.ReferenceIdeal.Run
public import Idealize.ShloMosaic.Lib.ReduceAll
public import Idealize.ShloMosaic.Lib.StableHlo.Predicate
public import Idealize.ShloMosaic.Init

@[expose] public section

set_option maxRecDepth 16384

noncomputable section

namespace Cert.Proof

open Idealize.ShloMosaic hiding ix0 ix1 ix2 ix3 eq_ix1 eq_ix2 eq_ix3
open Idealize.ShloMosaic.TcCoe Idealize.SL.Sem
open Cert.KernelIdeal Cert.KernelIdeal.Gen Idealize.ShloMosaic.ValueIdx
open Cert.Score Cert.Segments Cert.PreparedWeights Cert.KernelValue

/-- The shape relations the precondition takes. -/
theorem pre_facts : Cert.Pre_counts_are_16.Facts where
  bcast_S_S16384 := by decide
  reducesTo_S16384_S_d0 := by decide
  h_S_ := by decide

/-- Those relations, found by inference. -/
instance : Cert.Pre_counts_are_16.Facts := pre_facts

/-- A scalar has one index. -/
instance : Subsingleton Cert.Pre_counts_are_16.S_.Idx := ⟨fun a b => funext fun k => k.elim0⟩

/-- The precondition says that both arrays of counts are 16 at every set. -/
theorem counts_of_pre (m : (ℓ : Loc nD τ sig) → Buf (Elt Ideal) ℓ) (h : Cert.Pre_KernelIdeal_counts_are_16 m) (c : Dev nD) :
    m ((c.tc : Thread nD τ).loc main_arg3) = counts16 ∧ m ((c.tc : Thread nD τ).loc main_arg4) = counts16 := by
  have e := congrFun (h c) (fun k : Fin 0 => k.elim0)
  simp only [Cert.Pre_counts_are_16.fn, andi] at e
  obtain ⟨e3, e4⟩ := IntOp.andi_eq_one.1 e
  exact ⟨funext fun i => StableHlo.Predicate.cmpi_eq_iff.1 (Host.reduce_andi_all _ _ _ _ _ e3 i),
    funext fun i => StableHlo.Predicate.cmpi_eq_iff.1 (Host.reduce_andi_all _ _ _ _ _ e4 i)⟩

/-- The reference's result, of the arguments and counts of 16, is the kernel's result array. -/
theorem result_eq (m : (ℓ : Loc nD τ sig) → Buf (Elt Ideal) ℓ) (c : Dev nD) :
    Cert.ReferenceIdeal.Read.val_main_v114 (F := Ideal) (m ((c.tc : Thread nD τ).loc main_arg0)) (m ((c.tc : Thread nD τ).loc main_arg1)) (m ((c.tc : Thread nD τ).loc main_arg2)) counts16 counts16
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      = (dats m 0 c).arrAt 18 cfg0.N := by
  funext i
  rw [eq_ix1 i]
  exact (Cert.RefValue.result_at _ _ _ _ _ _ _ _ _ _ _ _ _ _ _ _ _ (argWeights m c) rfl (i 0)).trans (array_at m c (i 0)).symm

/-- The kernel runs, keeps its arguments and ends with every semaphore at zero. -/
theorem frame_kernel : Cert.quiescent_Kernel := fun m ρ _ => Cert.Kernel.Gen.frame m ρ

/-- The idealized kernel runs, keeps its arguments and ends with every semaphore at zero. -/
theorem frame_ideal : Cert.quiescent_KernelIdeal := fun m ρ _ => Cert.KernelIdeal.Gen.frame m ρ

/-- So it does where the counts are 16. -/
theorem frame_ideal_pre : Cert.quiescent_KernelIdeal_pre_counts_are_16 := fun m ρ _ => Cert.KernelIdeal.Gen.frame m ρ

/-- The reference keeps its arguments; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does where the counts are 16. -/
theorem frame_reference_pre : Cert.quiescent_ReferenceIdeal_pre_counts_are_16 := fun m ρ _ => frame_reference m ρ trivial

/-- The reference's result, of arguments that agree with the kernel's, is the kernel's result array. -/
theorem reference_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_counts_are_16 m) (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)) :
    Cert.ReferenceIdeal.Read.val_main_v114 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = (dats m 0 c).arrAt 18 cfg0.N := by
  obtain ⟨h0, h1, h2, h3, h4, h5, h6, h7, h8, h9, h10, h11, h12, h13, h14, h15, h16, h17, h18⟩ := hagree
  obtain ⟨e3, e4⟩ := counts_of_pre m hpre c
  rw [h0, h1, h2, h3, h4, h5, h6, h7, h8, h9, h10, h11, h12, h13, h14, h15, h16, h17, h18, e3, e4]
  exact result_eq m c

/-- Where the counts are 16, the idealized kernel and the idealized reference end with equal results. -/
theorem algebraic : Cert.algebraic_KernelIdeal_ReferenceIdeal_pre_counts_are_16 := by
  intro m ρ m' ρ' hpre hagree
  refine ⟨fun c => (dats m 0 c).arrAt 18 cfg0.N, Cert.KernelIdeal.Value.run_blocks m ρ, ?_⟩
  refine (θ_run Cert.ReferenceIdeal.defs _ _).mono (fun r h c => ⟨(h c).1.trans ?_, (h c).2⟩)
    (Cert.ReferenceIdeal.Value.run (F := Ideal) m' ρ')
  exact (Cert.ReferenceIdeal.Read.val_main_v114_eq (fun b => m' (c, b))).trans (reference_eq m m' hpre c (hagree c))

end Cert.Proof

end
-- ==== Proof.lean ====
/- The certificate: the witnesses of the stated shape relations, and the claims. -/
module

public import proofs.«01_k».proof.Defs
public import proofs.«01_k».proof.Proof.Claims

@[expose] public section

noncomputable section

namespace Cert.Proof

/-- Every claim of the certificate. -/
theorem claim : Cert.Claim := ⟨Cert.Kernel.Gen.facts, Cert.KernelIdeal.Gen.facts, Cert.ReferenceIdeal.Gen.facts, pre_facts,
  frame_kernel, frame_ideal, frame_ideal_pre, frame_reference, frame_reference_pre, trivial, algebraic⟩

end Cert.Proof

end
